-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S384x384 : Shape := ⟨2, ![384, 384]⟩
abbrev S32x384 : Shape := ⟨2, ![32, 384]⟩
abbrev S384x128 : Shape := ⟨2, ![384, 128]⟩
abbrev S383x128 : Shape := ⟨2, ![383, 128]⟩
abbrev S1x128 : Shape := ⟨2, ![1, 128]⟩
abbrev S32x383 : Shape := ⟨2, ![32, 383]⟩
abbrev S32x1 : Shape := ⟨2, ![32, 1]⟩

abbrev nBuf : Space → Nat
  | .hbm => 2
  | .vmem => 5
  | .smem => 0
  | _ => 0

abbrev bufTy : (tb : Table) → Fin (tcTables nBuf tb) → BufTy
  | .hbm, ⟨0, _⟩ => ⟨S384x384, .f32⟩
  | .hbm, ⟨1, _⟩ => ⟨S384x384, .f32⟩
  | .local _ .vmem, ⟨0, _⟩ => ⟨S384x384, .f32⟩
  | .local _ .vmem, ⟨1, _⟩ => ⟨S384x384, .f32⟩
  | .local _ .vmem, ⟨2, _⟩ => ⟨S384x384, .f32⟩
  | .local _ .vmem, ⟨3, _⟩ => ⟨S384x384, .f32⟩
  | .local _ .vmem, ⟨4, _⟩ => ⟨S384x384, .f32⟩
  | _, _ => ⟨S384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c15_i32 : BitVec 32 := 15#32
  let v24 : BitVec 32 := Scalar.addi c0_i32 c15_i32
  let c1_i32 : BitVec 32 := 1#32
  ⟨c0_i32, v24, c1_i32⟩
abbrev stage0_0 : Fin 1 → Memref sig .tc .vmem S384x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S384x384 : Shape := ⟨2, ![384, 384]⟩
abbrev S40 : Shape := ⟨1, ![40]⟩
abbrev S384x383 : Shape := ⟨2, ![384, 383]⟩
abbrev S384x1 : Shape := ⟨2, ![384, 1]⟩
abbrev S384x382 : Shape := ⟨2, ![384, 382]⟩
abbrev S1 : Shape := ⟨1, ![1]⟩

abbrev nBuf : Space → Nat
  | .hbm => 3
  | .vmem => 2
  | .smem => 1
  | _ => 0

abbrev bufTy : (tb : Table) → Fin (tcTables nBuf tb) → BufTy
  | .hbm, ⟨0, _⟩ => ⟨S384x384, .f32⟩
  | .hbm, ⟨1, _⟩ => ⟨S40, .f32⟩
  | .hbm, ⟨2, _⟩ => ⟨S384x384, .f32⟩
  | .local _ .vmem, ⟨0, _⟩ => ⟨S384x384, .f32⟩
  | .local _ .vmem, ⟨1, _⟩ => ⟨S384x384, .f32⟩
  | .local _ .smem, ⟨0, _⟩ => ⟨S40, .f32⟩
  | _, _ => ⟨S384x384, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev cc0_stg0_0 : Ref sig .tc := ⟨.vmem, 0, rfl⟩
abbrev cc0_stg2_0 : Ref sig .tc := ⟨.vmem, 1, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c15_i32 : BitVec 32 := 15#32
  let v3 : BitVec 32 := Scalar.addi c0_i32 c15_i32
  let c1_i32 : BitVec 32 := 1#32
  ⟨c0_i32, v3, c1_i32⟩
@[reducible] def k0_t2_loop : Scf.Loop 32 :=
  let c0_i32_5 : BitVec 32 := 0#32
  let c40_i32 : BitVec 32 := 40#32
  let v9 : BitVec 32 := Scalar.addi c0_i32_5 c40_i32
  let c1_i32_6 : BitVec 32 := 1#32
  ⟨c0_i32_5, v9, c1_i32_6⟩
def k0_off1 (k0_t2 : Fin k0_t2_loop.trips) : Fin 1 → Nat :=
  let c0_i32_5 : BitVec 32 := 0#32
  let c1_i32_6 : BitVec 32 := 1#32
  let arg7 : BitVec 32 := Scf.iv c0_i32_5 c1_i32_6 k0_t2
  let v57 : Index := Scalar.indexCast arg7
  ![v57.toNat]
@[reducible] def k0_t3_loop : Scf.Loop 32 :=
  let c0_i32_10 : BitVec 32 := 0#32
  let c40_i32_11 : BitVec 32 := 40#32
  let v25 : BitVec 32 := Scalar.addi c0_i32_10 c40_i32_11
  let c1_i32_12 : BitVec 32 := 1#32
  ⟨c0_i32_10, v25, c1_i32_12⟩
def k0_off2 (k0_t3 : Fin k0_t3_loop.trips) : Fin 1 → Nat :=
  let c0_i32_10 : BitVec 32 := 0#32
  let c1_i32_12 : BitVec 32 := 1#32
  let arg7 : BitVec 32 := Scf.iv c0_i32_10 c1_i32_12 k0_t3
  let v57 : Index := Scalar.indexCast arg7
  ![v57.toNat]
abbrev stage0_0 : Fin 1 → Memref sig .tc .vmem S384x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S384x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Same.lean ====
module

public import proofs.«01_k».proof.Kernel
public import proofs.«01_k».proof.KernelIdeal
public import Idealize.ShloMosaic.Lib.Tactic
public import Idealize.ShloMosaic.Lib.Quiescent

@[expose] public section

noncomputable section

namespace Cert.Kernel.Tv

open Idealize.ShloMosaic Idealize.ShloMosaic.TcCoe Idealize.ShloMosaic.Tactic Idealize.SL.Sem

variable {F : FTy → Type} [FloatOps F] [Cert.Kernel.Facts] [Cert.KernelIdeal.Facts]

/-- The idealization is the kernel's own text: the two frames are one statement. -/
theorem frame_eq :
    (∀ (m : (ℓ : Loc Cert.Kernel.nD Cert.Kernel.τ Cert.Kernel.sig) → Buf (Elt F) ℓ) (g : Dev Cert.Kernel.nD → PrngReg),
      θ_run (Cert.Kernel.defs (F := F)) (onTc (τ := Cert.Kernel.τ) (Cert.Kernel.main (F := F))) ⟨m, fun _ => 0, g⟩ (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0))
        ∧ r.2.sem = fun _ => 0))
    = (∀ (m : (ℓ : Loc Cert.KernelIdeal.nD Cert.KernelIdeal.τ Cert.KernelIdeal.sig) → Buf (Elt F) ℓ) (g : Dev Cert.KernelIdeal.nD → PrngReg),
      θ_run (Cert.KernelIdeal.defs (F := F)) (onTc (τ := Cert.KernelIdeal.τ) (Cert.KernelIdeal.main (F := F))) ⟨m, fun _ => 0, g⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
        ∧ r.2.sem = fun _ => 0)) := by sl_kernel_rfl

end Cert.Kernel.Tv

end
-- ==== Proof.Body.lean ====
module

public import proofs.«01_k».proof.Proof.Gen.KernelIdeal.Skeleton
public import Idealize.ShloMosaic.Lib.Tactic

@[expose] public section

/-! # One trip of the kernel's loop, written with the iteration folded

The printed trip unrolls forty steps of the dual iteration for three blocks of columns and for twelve blocks of
rows.  Here the same operations are written with the step named once and iterated. -/

noncomputable section

namespace Cert.KernelIdeal.Tv

open Idealize.ShloMosaic Idealize.ShloMosaic.Tactic Idealize.SL.Sem Cert.KernelIdeal Cert.KernelIdeal.Gen

variable {F : FTy → Type} [FloatOps F]

/-- The momentum factors of the dual iteration, as the words both programs hold. -/
def coef : ℕ → BitVec 32
  | 0 => 0x00000000#32 | 1 => 0x3E9041FF#32 | 2 => 0x3EDE3ADB#32 | 3 => 0x3F07F3CC#32 | 4 => 0x3F19498E#32
  | 5 => 0x3F261FD7#32 | 6 => 0x3F30098F#32 | 7 => 0x3F37EF9B#32 | 8 => 0x3F3E6289#32 | 9 => 0x3F43C111#32
  | 10 => 0x3F484BF9#32 | 11 => 0x3F4C311D#32 | 12 => 0x3F4F91E6#32 | 13 => 0x3F528747#32 | 14 => 0x3F552440#32
  | 15 => 0x3F577792#32 | 16 => 0x3F598CDB#32 | 17 => 0x3F5B6D64#32 | 18 => 0x3F5D20B2#32 | 19 => 0x3F5EACE7#32
  | 20 => 0x3F601717#32 | 21 => 0x3F61637D#32 | 22 => 0x3F6295A5#32 | 23 => 0x3F63B092#32 | 24 => 0x3F64B6D4#32
  | 25 => 0x3F65AA9C#32 | 26 => 0x3F668DD1#32 | 27 => 0x3F676216#32 | 28 => 0x3F6828DC#32 | 29 => 0x3F68E362#32
  | 30 => 0x3F6992C4#32 | 31 => 0x3F6A37FB#32 | 32 => 0x3F6AD3E3#32 | 33 => 0x3F6B6742#32 | 34 => 0x3F6BF2C6#32
  | 35 => 0x3F6C770D#32 | 36 => 0x3F6CF4A5#32 | 37 => 0x3F6D6C0C#32 | 38 => 0x3F6DDDB4#32 | 39 => 0x3F6E4A07#32
  | _ => 0x00000000#32

/-! ## A block of rows -/

/-- Each row moved one place to the left, zero at its end. -/
def rowNext (a : FVec F S32x384 .f32) : FVec F S32x384 .f32 :=
  concatenate S32x384 1 [⟨S32x383, extractStridedSlice S32x383 ![0, 1] a slices_S32x384_o0_1_S32x383⟩,
    ⟨S32x1, broadcast S32x1 (Scalar.ofBits .f32 0x00000000#32)⟩] concatenates_S32x383_S32x1_S32x384_d1

/-- Each row moved one place to the right, zero at its start. -/
def rowPrev (a : FVec F S32x384 .f32) : FVec F S32x384 .f32 :=
  concatenate S32x384 1 [⟨S32x1, broadcast S32x1 (Scalar.ofBits .f32 0x00000000#32)⟩,
    ⟨S32x383, extractStridedSlice S32x383 ![0, 0] a slices_S32x384_o0_0_S32x383⟩] concatenates_S32x1_S32x383_S32x384_d1

/-- A quarter of the forward difference, the constant part of every dual step. -/
def rowC (y : FVec F S32x384 .f32) : FVec F S32x384 .f32 :=
  mulf (broadcast S32x384 (Scalar.ofBits .f32 0x3E800000#32)) (subf (rowNext y) y)

/-- The clipped and masked dual variable from the extrapolated one. -/
def rowQ (C u : FVec F S32x384 .f32) : FVec F S32x384 .f32 :=
  mulf (minimumf (broadcast S32x384 (Scalar.ofBits .f32 0x3DCCCCCD#32))
    (maximumf (broadcast S32x384 (Scalar.ofBits .f32 0xBDCCCCCD#32))
      (addf C (addf (addf u (rowNext u)) (addf u (rowPrev u)))))) (k0_pay1 (F := F))

/-- The dual variable and its extrapolation after `n` steps. -/
def rowSt (C : FVec F S32x384 .f32) (n : ℕ) : FVec F S32x384 .f32 × FVec F S32x384 .f32 :=
  Nat.rec (broadcast S32x384 (Scalar.ofBits .f32 0x00000000#32), broadcast S32x384 (Scalar.ofBits .f32 0x00000000#32))
    (fun i s => (rowQ C s.2, addf (rowQ C s.2)
      (mulf (broadcast S32x384 (Scalar.ofBits .f32 (coef i))) (subf (rowQ C s.2) s.1)))) n

/-- The proximal point of a block of rows. -/
def rowOut (y : FVec F S32x384 .f32) : FVec F S32x384 .f32 :=
  addf y (mulf (broadcast S32x384 (Scalar.ofBits .f32 0x40800000#32))
    (subf (rowSt (rowC y) 40).1 (rowPrev (rowSt (rowC y) 40).1)))

/-- What the row step leaves over. -/
def rowDiff (y : FVec F S32x384 .f32) : FVec F S32x384 .f32 :=
  shapeCast S32x384 (subf y (rowOut y)) shapeCasts_S32x384_S32x384

/-! ## A block of columns -/

/-- Each column moved one place up, zero at its end. -/
def colNext (a : FVec F S384x128 .f32) : FVec F S384x128 .f32 :=
  concatenate S384x128 0 [⟨S383x128, extractStridedSlice S383x128 ![1, 0] a slices_S384x128_o1_0_S383x128⟩,
    ⟨S1x128, broadcast S1x128 (Scalar.ofBits .f32 0x00000000#32)⟩] concatenates_S383x128_S1x128_S384x128_d0

/-- Each column moved one place down, zero at its start. -/
def colPrev (a : FVec F S384x128 .f32) : FVec F S384x128 .f32 :=
  concatenate S384x128 0 [⟨S1x128, broadcast S1x128 (Scalar.ofBits .f32 0x00000000#32)⟩,
    ⟨S383x128, extractStridedSlice S383x128 ![0, 0] a slices_S384x128_o0_0_S383x128⟩] concatenates_S1x128_S383x128_S384x128_d0

/-- A quarter of the forward difference along the columns. -/
def colC (y : FVec F S384x128 .f32) : FVec F S384x128 .f32 :=
  mulf (broadcast S384x128 (Scalar.ofBits .f32 0x3E800000#32)) (subf (colNext y) y)

/-- The clipped and masked dual variable from the extrapolated one. -/
def colQ (C u : FVec F S384x128 .f32) : FVec F S384x128 .f32 :=
  mulf (minimumf (broadcast S384x128 (Scalar.ofBits .f32 0x3DCCCCCD#32))
    (maximumf (broadcast S384x128 (Scalar.ofBits .f32 0xBDCCCCCD#32))
      (addf C (addf (addf u (colNext u)) (addf u (colPrev u)))))) (k0_pay2 (F := F))

/-- The dual variable and its extrapolation after `n` steps. -/
def colSt (C : FVec F S384x128 .f32) (n : ℕ) : FVec F S384x128 .f32 × FVec F S384x128 .f32 :=
  Nat.rec (broadcast S384x128 (Scalar.ofBits .f32 0x00000000#32), broadcast S384x128 (Scalar.ofBits .f32 0x00000000#32))
    (fun i s => (colQ C s.2, addf (colQ C s.2)
      (mulf (broadcast S384x128 (Scalar.ofBits .f32 (coef i))) (subf (colQ C s.2) s.1)))) n

/-- The argument of the column step. -/
def colIn (x p : FVec F S384x128 .f32) : FVec F S384x128 .f32 :=
  addf (shapeCast S384x128 x shapeCasts_S384x128_S384x128) p

/-- The proximal point of a block of columns. -/
def colOut' (y : FVec F S384x128 .f32) : FVec F S384x128 .f32 :=
  addf y (mulf (broadcast S384x128 (Scalar.ofBits .f32 0x40800000#32))
    (subf (colSt (colC y) 40).1 (colPrev (colSt (colC y) 40).1)))

/-- The proximal point of a block of columns, as stored. -/
def colOut (y : FVec F S384x128 .f32) : FVec F S384x128 .f32 :=
  shapeCast S384x128 (colOut' y) shapeCasts_S384x128_S384x128

/-- What the column step leaves over. -/
def colDiff (y : FVec F S384x128 .f32) : FVec F S384x128 .f32 :=
  shapeCast S384x128 (subf y (colOut' y)) shapeCasts_S384x128_S384x128

/-! ## The trip -/

/-- One trip: the column step over three blocks, then the row step over twelve. -/
def trip (arg1 arg2 arg3 arg4 : Memref sig .tc .vmem S384x384 .f32) :
    Prog (TpuEff nD τ sig (Elt F) Λ₀ .tc) Unit := do
  let x0 : Vec F S384x128 .f32 ← Prog.lift (.load arg1 (Rect.unit (s := S384x384) ![0, 0] S384x128.size inb_S384x384_S384x128_0_0).toLoadRect (View.loadsAt_vmem h_S384x128))
  let p0 : Vec F S384x128 .f32 ← Prog.lift (.load arg2 (Rect.unit (s := S384x384) ![0, 0] S384x128.size inb_S384x384_S384x128_0_0).toLoadRect (View.loadsAt_vmem h_S384x128))
  let x1 : Vec F S384x128 .f32 ← Prog.lift (.load arg1 (Rect.unit (s := S384x384) ![0, 128] S384x128.size inb_S384x384_S384x128_0_128).toLoadRect (View.loadsAt_vmem h_S384x128))
  let p1 : Vec F S384x128 .f32 ← Prog.lift (.load arg2 (Rect.unit (s := S384x384) ![0, 128] S384x128.size inb_S384x384_S384x128_0_128).toLoadRect (View.loadsAt_vmem h_S384x128))
  let x2 : Vec F S384x128 .f32 ← Prog.lift (.load arg1 (Rect.unit (s := S384x384) ![0, 256] S384x128.size inb_S384x384_S384x128_0_256).toLoadRect (View.loadsAt_vmem h_S384x128))
  let p2 : Vec F S384x128 .f32 ← Prog.lift (.load arg2 (Rect.unit (s := S384x384) ![0, 256] S384x128.size inb_S384x384_S384x128_0_256).toLoadRect (View.loadsAt_vmem h_S384x128))
  let _ : Vec F S384x128 .f32 ← Prog.lift (.load arg4 (Rect.unit (s := S384x384) ![0, 0] S384x128.size inb_S384x384_S384x128_0_0).toLoadRect (View.loadsAt_vmem h_S384x128))
  Prog.lift (.store arg4 (Rect.unit (s := S384x384) ![0, 0] S384x128.size inb_S384x384_S384x128_0_0) (colOut (colIn x0 p0)) Finset.univ (View.stores_vmem_bits_univ h_S384x128 rfl) (.inl rfl))
  let _ : Vec F S384x128 .f32 ← Prog.lift (.load arg2 (Rect.unit (s := S384x384) ![0, 0] S384x128.size inb_S384x384_S384x128_0_0).toLoadRect (View.loadsAt_vmem h_S384x128))
  Prog.lift (.store arg2 (Rect.unit (s := S384x384) ![0, 0] S384x128.size inb_S384x384_S384x128_0_0) (colDiff (colIn x0 p0)) Finset.univ (View.stores_vmem_bits_univ h_S384x128 rfl) (.inl rfl))
  let _ : Vec F S384x128 .f32 ← Prog.lift (.load arg4 (Rect.unit (s := S384x384) ![0, 128] S384x128.size inb_S384x384_S384x128_0_128).toLoadRect (View.loadsAt_vmem h_S384x128))
  Prog.lift (.store arg4 (Rect.unit (s := S384x384) ![0, 128] S384x128.size inb_S384x384_S384x128_0_128) (colOut (colIn x1 p1)) Finset.univ (View.stores_vmem_bits_univ h_S384x128 rfl) (.inl rfl))
  let _ : Vec F S384x128 .f32 ← Prog.lift (.load arg2 (Rect.unit (s := S384x384) ![0, 128] S384x128.size inb_S384x384_S384x128_0_128).toLoadRect (View.loadsAt_vmem h_S384x128))
  Prog.lift (.store arg2 (Rect.unit (s := S384x384) ![0, 128] S384x128.size inb_S384x384_S384x128_0_128) (colDiff (colIn x1 p1)) Finset.univ (View.stores_vmem_bits_univ h_S384x128 rfl) (.inl rfl))
  let _ : Vec F S384x128 .f32 ← Prog.lift (.load arg4 (Rect.unit (s := S384x384) ![0, 256] S384x128.size inb_S384x384_S384x128_0_256).toLoadRect (View.loadsAt_vmem h_S384x128))
  Prog.lift (.store arg4 (Rect.unit (s := S384x384) ![0, 256] S384x128.size inb_S384x384_S384x128_0_256) (colOut (colIn x2 p2)) Finset.univ (View.stores_vmem_bits_univ h_S384x128 rfl) (.inl rfl))
  let _ : Vec F S384x128 .f32 ← Prog.lift (.load arg2 (Rect.unit (s := S384x384) ![0, 256] S384x128.size inb_S384x384_S384x128_0_256).toLoadRect (View.loadsAt_vmem h_S384x128))
  Prog.lift (.store arg2 (Rect.unit (s := S384x384) ![0, 256] S384x128.size inb_S384x384_S384x128_0_256) (colDiff (colIn x2 p2)) Finset.univ (View.stores_vmem_bits_univ h_S384x128 rfl) (.inl rfl))
  let y0 : Vec F S32x384 .f32 ← Prog.lift (.load arg4 (Rect.unit (s := S384x384) ![0, 0] S32x384.size inb_S384x384_S32x384_0_0).toLoadRect (View.loadsAt_vmem h_S32x384))
  let q0 : Vec F S32x384 .f32 ← Prog.lift (.load arg3 (Rect.unit (s := S384x384) ![0, 0] S32x384.size inb_S384x384_S32x384_0_0).toLoadRect (View.loadsAt_vmem h_S32x384))
  let y1 : Vec F S32x384 .f32 ← Prog.lift (.load arg4 (Rect.unit (s := S384x384) ![32, 0] S32x384.size inb_S384x384_S32x384_32_0).toLoadRect (View.loadsAt_vmem h_S32x384))
  let q1 : Vec F S32x384 .f32 ← Prog.lift (.load arg3 (Rect.unit (s := S384x384) ![32, 0] S32x384.size inb_S384x384_S32x384_32_0).toLoadRect (View.loadsAt_vmem h_S32x384))
  let y2 : Vec F S32x384 .f32 ← Prog.lift (.load arg4 (Rect.unit (s := S384x384) ![64, 0] S32x384.size inb_S384x384_S32x384_64_0).toLoadRect (View.loadsAt_vmem h_S32x384))
  let q2 : Vec F S32x384 .f32 ← Prog.lift (.load arg3 (Rect.unit (s := S384x384) ![64, 0] S32x384.size inb_S384x384_S32x384_64_0).toLoadRect (View.loadsAt_vmem h_S32x384))
  let y3 : Vec F S32x384 .f32 ← Prog.lift (.load arg4 (Rect.unit (s := S384x384) ![96, 0] S32x384.size inb_S384x384_S32x384_96_0).toLoadRect (View.loadsAt_vmem h_S32x384))
  let q3 : Vec F S32x384 .f32 ← Prog.lift (.load arg3 (Rect.unit (s := S384x384) ![96, 0] S32x384.size inb_S384x384_S32x384_96_0).toLoadRect (View.loadsAt_vmem h_S32x384))
  let y4 : Vec F S32x384 .f32 ← Prog.lift (.load arg4 (Rect.unit (s := S384x384) ![128, 0] S32x384.size inb_S384x384_S32x384_128_0).toLoadRect (View.loadsAt_vmem h_S32x384))
  let q4 : Vec F S32x384 .f32 ← Prog.lift (.load arg3 (Rect.unit (s := S384x384) ![128, 0] S32x384.size inb_S384x384_S32x384_128_0).toLoadRect (View.loadsAt_vmem h_S32x384))
  let y5 : Vec F S32x384 .f32 ← Prog.lift (.load arg4 (Rect.unit (s := S384x384) ![160, 0] S32x384.size inb_S384x384_S32x384_160_0).toLoadRect (View.loadsAt_vmem h_S32x384))
  let q5 : Vec F S32x384 .f32 ← Prog.lift (.load arg3 (Rect.unit (s := S384x384) ![160, 0] S32x384.size inb_S384x384_S32x384_160_0).toLoadRect (View.loadsAt_vmem h_S32x384))
  let _ : Vec F S32x384 .f32 ← Prog.lift (.load arg1 (Rect.unit (s := S384x384) ![0, 0] S32x384.size inb_S384x384_S32x384_0_0).toLoadRect (View.loadsAt_vmem h_S32x384))
  Prog.lift (.store arg1 (Rect.unit (s := S384x384) ![0, 0] S32x384.size inb_S384x384_S32x384_0_0) (rowOut (addf y0 q0)) Finset.univ (View.stores_vmem_bits_univ h_S32x384 rfl) (.inl rfl))
  let _ : Vec F S32x384 .f32 ← Prog.lift (.load arg3 (Rect.unit (s := S384x384) ![0, 0] S32x384.size inb_S384x384_S32x384_0_0).toLoadRect (View.loadsAt_vmem h_S32x384))
  Prog.lift (.store arg3 (Rect.unit (s := S384x384) ![0, 0] S32x384.size inb_S384x384_S32x384_0_0) (rowDiff (addf y0 q0)) Finset.univ (View.stores_vmem_bits_univ h_S32x384 rfl) (.inl rfl))
  let _ : Vec F S32x384 .f32 ← Prog.lift (.load arg1 (Rect.unit (s := S384x384) ![32, 0] S32x384.size inb_S384x384_S32x384_32_0).toLoadRect (View.loadsAt_vmem h_S32x384))
  Prog.lift (.store arg1 (Rect.unit (s := S384x384) ![32, 0] S32x384.size inb_S384x384_S32x384_32_0) (rowOut (addf y1 q1)) Finset.univ (View.stores_vmem_bits_univ h_S32x384 rfl) (.inl rfl))
  let _ : Vec F S32x384 .f32 ← Prog.lift (.load arg3 (Rect.unit (s := S384x384) ![32, 0] S32x384.size inb_S384x384_S32x384_32_0).toLoadRect (View.loadsAt_vmem h_S32x384))
  Prog.lift (.store arg3 (Rect.unit (s := S384x384) ![32, 0] S32x384.size inb_S384x384_S32x384_32_0) (rowDiff (addf y1 q1)) Finset.univ (View.stores_vmem_bits_univ h_S32x384 rfl) (.inl rfl))
  let _ : Vec F S32x384 .f32 ← Prog.lift (.load arg1 (Rect.unit (s := S384x384) ![64, 0] S32x384.size inb_S384x384_S32x384_64_0).toLoadRect (View.loadsAt_vmem h_S32x384))
  Prog.lift (.store arg1 (Rect.unit (s := S384x384) ![64, 0] S32x384.size inb_S384x384_S32x384_64_0) (rowOut (addf y2 q2)) Finset.univ (View.stores_vmem_bits_univ h_S32x384 rfl) (.inl rfl))
  let _ : Vec F S32x384 .f32 ← Prog.lift (.load arg3 (Rect.unit (s := S384x384) ![64, 0] S32x384.size inb_S384x384_S32x384_64_0).toLoadRect (View.loadsAt_vmem h_S32x384))
  Prog.lift (.store arg3 (Rect.unit (s := S384x384) ![64, 0] S32x384.size inb_S384x384_S32x384_64_0) (rowDiff (addf y2 q2)) Finset.univ (View.stores_vmem_bits_univ h_S32x384 rfl) (.inl rfl))
  let _ : Vec F S32x384 .f32 ← Prog.lift (.load arg1 (Rect.unit (s := S384x384) ![96, 0] S32x384.size inb_S384x384_S32x384_96_0).toLoadRect (View.loadsAt_vmem h_S32x384))
  Prog.lift (.store arg1 (Rect.unit (s := S384x384) ![96, 0] S32x384.size inb_S384x384_S32x384_96_0) (rowOut (addf y3 q3)) Finset.univ (View.stores_vmem_bits_univ h_S32x384 rfl) (.inl rfl))
  let _ : Vec F S32x384 .f32 ← Prog.lift (.load arg3 (Rect.unit (s := S384x384) ![96, 0] S32x384.size inb_S384x384_S32x384_96_0).toLoadRect (View.loadsAt_vmem h_S32x384))
  Prog.lift (.store arg3 (Rect.unit (s := S384x384) ![96, 0] S32x384.size inb_S384x384_S32x384_96_0) (rowDiff (addf y3 q3)) Finset.univ (View.stores_vmem_bits_univ h_S32x384 rfl) (.inl rfl))
  let _ : Vec F S32x384 .f32 ← Prog.lift (.load arg1 (Rect.unit (s := S384x384) ![128, 0] S32x384.size inb_S384x384_S32x384_128_0).toLoadRect (View.loadsAt_vmem h_S32x384))
  Prog.lift (.store arg1 (Rect.unit (s := S384x384) ![128, 0] S32x384.size inb_S384x384_S32x384_128_0) (rowOut (addf y4 q4)) Finset.univ (View.stores_vmem_bits_univ h_S32x384 rfl) (.inl rfl))
  let _ : Vec F S32x384 .f32 ← Prog.lift (.load arg3 (Rect.unit (s := S384x384) ![128, 0] S32x384.size inb_S384x384_S32x384_128_0).toLoadRect (View.loadsAt_vmem h_S32x384))
  Prog.lift (.store arg3 (Rect.unit (s := S384x384) ![128, 0] S32x384.size inb_S384x384_S32x384_128_0) (rowDiff (addf y4 q4)) Finset.univ (View.stores_vmem_bits_univ h_S32x384 rfl) (.inl rfl))
  let _ : Vec F S32x384 .f32 ← Prog.lift (.load arg1 (Rect.unit (s := S384x384) ![160, 0] S32x384.size inb_S384x384_S32x384_160_0).toLoadRect (View.loadsAt_vmem h_S32x384))
  Prog.lift (.store arg1 (Rect.unit (s := S384x384) ![160, 0] S32x384.size inb_S384x384_S32x384_160_0) (rowOut (addf y5 q5)) Finset.univ (View.stores_vmem_bits_univ h_S32x384 rfl) (.inl rfl))
  let _ : Vec F S32x384 .f32 ← Prog.lift (.load arg3 (Rect.unit (s := S384x384) ![160, 0] S32x384.size inb_S384x384_S32x384_160_0).toLoadRect (View.loadsAt_vmem h_S32x384))
  Prog.lift (.store arg3 (Rect.unit (s := S384x384) ![160, 0] S32x384.size inb_S384x384_S32x384_160_0) (rowDiff (addf y5 q5)) Finset.univ (View.stores_vmem_bits_univ h_S32x384 rfl) (.inl rfl))
  let y6 : Vec F S32x384 .f32 ← Prog.lift (.load arg4 (Rect.unit (s := S384x384) ![192, 0] S32x384.size inb_S384x384_S32x384_192_0).toLoadRect (View.loadsAt_vmem h_S32x384))
  let q6 : Vec F S32x384 .f32 ← Prog.lift (.load arg3 (Rect.unit (s := S384x384) ![192, 0] S32x384.size inb_S384x384_S32x384_192_0).toLoadRect (View.loadsAt_vmem h_S32x384))
  let y7 : Vec F S32x384 .f32 ← Prog.lift (.load arg4 (Rect.unit (s := S384x384) ![224, 0] S32x384.size inb_S384x384_S32x384_224_0).toLoadRect (View.loadsAt_vmem h_S32x384))
  let q7 : Vec F S32x384 .f32 ← Prog.lift (.load arg3 (Rect.unit (s := S384x384) ![224, 0] S32x384.size inb_S384x384_S32x384_224_0).toLoadRect (View.loadsAt_vmem h_S32x384))
  let y8 : Vec F S32x384 .f32 ← Prog.lift (.load arg4 (Rect.unit (s := S384x384) ![256, 0] S32x384.size inb_S384x384_S32x384_256_0).toLoadRect (View.loadsAt_vmem h_S32x384))
  let q8 : Vec F S32x384 .f32 ← Prog.lift (.load arg3 (Rect.unit (s := S384x384) ![256, 0] S32x384.size inb_S384x384_S32x384_256_0).toLoadRect (View.loadsAt_vmem h_S32x384))
  let y9 : Vec F S32x384 .f32 ← Prog.lift (.load arg4 (Rect.unit (s := S384x384) ![288, 0] S32x384.size inb_S384x384_S32x384_288_0).toLoadRect (View.loadsAt_vmem h_S32x384))
  let q9 : Vec F S32x384 .f32 ← Prog.lift (.load arg3 (Rect.unit (s := S384x384) ![288, 0] S32x384.size inb_S384x384_S32x384_288_0).toLoadRect (View.loadsAt_vmem h_S32x384))
  let y10 : Vec F S32x384 .f32 ← Prog.lift (.load arg4 (Rect.unit (s := S384x384) ![320, 0] S32x384.size inb_S384x384_S32x384_320_0).toLoadRect (View.loadsAt_vmem h_S32x384))
  let q10 : Vec F S32x384 .f32 ← Prog.lift (.load arg3 (Rect.unit (s := S384x384) ![320, 0] S32x384.size inb_S384x384_S32x384_320_0).toLoadRect (View.loadsAt_vmem h_S32x384))
  let y11 : Vec F S32x384 .f32 ← Prog.lift (.load arg4 (Rect.unit (s := S384x384) ![352, 0] S32x384.size inb_S384x384_S32x384_352_0).toLoadRect (View.loadsAt_vmem h_S32x384))
  let q11 : Vec F S32x384 .f32 ← Prog.lift (.load arg3 (Rect.unit (s := S384x384) ![352, 0] S32x384.size inb_S384x384_S32x384_352_0).toLoadRect (View.loadsAt_vmem h_S32x384))
  let _ : Vec F S32x384 .f32 ← Prog.lift (.load arg1 (Rect.unit (s := S384x384) ![192, 0] S32x384.size inb_S384x384_S32x384_192_0).toLoadRect (View.loadsAt_vmem h_S32x384))
  Prog.lift (.store arg1 (Rect.unit (s := S384x384) ![192, 0] S32x384.size inb_S384x384_S32x384_192_0) (rowOut (addf y6 q6)) Finset.univ (View.stores_vmem_bits_univ h_S32x384 rfl) (.inl rfl))
  let _ : Vec F S32x384 .f32 ← Prog.lift (.load arg3 (Rect.unit (s := S384x384) ![192, 0] S32x384.size inb_S384x384_S32x384_192_0).toLoadRect (View.loadsAt_vmem h_S32x384))
  Prog.lift (.store arg3 (Rect.unit (s := S384x384) ![192, 0] S32x384.size inb_S384x384_S32x384_192_0) (rowDiff (addf y6 q6)) Finset.univ (View.stores_vmem_bits_univ h_S32x384 rfl) (.inl rfl))
  let _ : Vec F S32x384 .f32 ← Prog.lift (.load arg1 (Rect.unit (s := S384x384) ![224, 0] S32x384.size inb_S384x384_S32x384_224_0).toLoadRect (View.loadsAt_vmem h_S32x384))
  Prog.lift (.store arg1 (Rect.unit (s := S384x384) ![224, 0] S32x384.size inb_S384x384_S32x384_224_0) (rowOut (addf y7 q7)) Finset.univ (View.stores_vmem_bits_univ h_S32x384 rfl) (.inl rfl))
  let _ : Vec F S32x384 .f32 ← Prog.lift (.load arg3 (Rect.unit (s := S384x384) ![224, 0] S32x384.size inb_S384x384_S32x384_224_0).toLoadRect (View.loadsAt_vmem h_S32x384))
  Prog.lift (.store arg3 (Rect.unit (s := S384x384) ![224, 0] S32x384.size inb_S384x384_S32x384_224_0) (rowDiff (addf y7 q7)) Finset.univ (View.stores_vmem_bits_univ h_S32x384 rfl) (.inl rfl))
  let _ : Vec F S32x384 .f32 ← Prog.lift (.load arg1 (Rect.unit (s := S384x384) ![256, 0] S32x384.size inb_S384x384_S32x384_256_0).toLoadRect (View.loadsAt_vmem h_S32x384))
  Prog.lift (.store arg1 (Rect.unit (s := S384x384) ![256, 0] S32x384.size inb_S384x384_S32x384_256_0) (rowOut (addf y8 q8)) Finset.univ (View.stores_vmem_bits_univ h_S32x384 rfl) (.inl rfl))
  let _ : Vec F S32x384 .f32 ← Prog.lift (.load arg3 (Rect.unit (s := S384x384) ![256, 0] S32x384.size inb_S384x384_S32x384_256_0).toLoadRect (View.loadsAt_vmem h_S32x384))
  Prog.lift (.store arg3 (Rect.unit (s := S384x384) ![256, 0] S32x384.size inb_S384x384_S32x384_256_0) (rowDiff (addf y8 q8)) Finset.univ (View.stores_vmem_bits_univ h_S32x384 rfl) (.inl rfl))
  let _ : Vec F S32x384 .f32 ← Prog.lift (.load arg1 (Rect.unit (s := S384x384) ![288, 0] S32x384.size inb_S384x384_S32x384_288_0).toLoadRect (View.loadsAt_vmem h_S32x384))
  Prog.lift (.store arg1 (Rect.unit (s := S384x384) ![288, 0] S32x384.size inb_S384x384_S32x384_288_0) (rowOut (addf y9 q9)) Finset.univ (View.stores_vmem_bits_univ h_S32x384 rfl) (.inl rfl))
  let _ : Vec F S32x384 .f32 ← Prog.lift (.load arg3 (Rect.unit (s := S384x384) ![288, 0] S32x384.size inb_S384x384_S32x384_288_0).toLoadRect (View.loadsAt_vmem h_S32x384))
  Prog.lift (.store arg3 (Rect.unit (s := S384x384) ![288, 0] S32x384.size inb_S384x384_S32x384_288_0) (rowDiff (addf y9 q9)) Finset.univ (View.stores_vmem_bits_univ h_S32x384 rfl) (.inl rfl))
  let _ : Vec F S32x384 .f32 ← Prog.lift (.load arg1 (Rect.unit (s := S384x384) ![320, 0] S32x384.size inb_S384x384_S32x384_320_0).toLoadRect (View.loadsAt_vmem h_S32x384))
  Prog.lift (.store arg1 (Rect.unit (s := S384x384) ![320, 0] S32x384.size inb_S384x384_S32x384_320_0) (rowOut (addf y10 q10)) Finset.univ (View.stores_vmem_bits_univ h_S32x384 rfl) (.inl rfl))
  let _ : Vec F S32x384 .f32 ← Prog.lift (.load arg3 (Rect.unit (s := S384x384) ![320, 0] S32x384.size inb_S384x384_S32x384_320_0).toLoadRect (View.loadsAt_vmem h_S32x384))
  Prog.lift (.store arg3 (Rect.unit (s := S384x384) ![320, 0] S32x384.size inb_S384x384_S32x384_320_0) (rowDiff (addf y10 q10)) Finset.univ (View.stores_vmem_bits_univ h_S32x384 rfl) (.inl rfl))
  let _ : Vec F S32x384 .f32 ← Prog.lift (.load arg1 (Rect.unit (s := S384x384) ![352, 0] S32x384.size inb_S384x384_S32x384_352_0).toLoadRect (View.loadsAt_vmem h_S32x384))
  Prog.lift (.store arg1 (Rect.unit (s := S384x384) ![352, 0] S32x384.size inb_S384x384_S32x384_352_0) (rowOut (addf y11 q11)) Finset.univ (View.stores_vmem_bits_univ h_S32x384 rfl) (.inl rfl))
  let _ : Vec F S32x384 .f32 ← Prog.lift (.load arg3 (Rect.unit (s := S384x384) ![352, 0] S32x384.size inb_S384x384_S32x384_352_0).toLoadRect (View.loadsAt_vmem h_S32x384))
  Prog.lift (.store arg3 (Rect.unit (s := S384x384) ![352, 0] S32x384.size inb_S384x384_S32x384_352_0) (rowDiff (addf y11 q11)) Finset.univ (View.stores_vmem_bits_univ h_S32x384 rfl) (.inl rfl))
  pure ⟨⟩

set_option maxRecDepth 100000 in
set_option maxHeartbeats 0 in
/-- The printed trip is the folded one. -/
theorem body_eq (arg0 : Memref sig .tc .vmem S384x384 .f32) (harg0 : arg0.IsWhole) (arg1 : Memref sig .tc .vmem S384x384 .f32) (harg1 : arg1.IsWhole) (arg2 : Memref sig .tc .vmem S384x384 .f32) (harg2 : arg2.IsWhole) (arg3 : Memref sig .tc .vmem S384x384 .f32) (harg3 : arg3.IsWhole) (arg4 : Memref sig .tc .vmem S384x384 .f32) (harg4 : arg4.IsWhole)
    (k : Fin k0_t1_loop.trips) (z : Unit) :
    k0_t1_body (F := F) arg0 harg0 arg1 harg1 arg2 harg2 arg3 harg3 arg4 harg4 k z = trip arg1 arg2 arg3 arg4 := by sl_kernel_rfl

end Cert.KernelIdeal.Tv

end
-- ==== Proof.Line.lean ====
module

public import proofs.«01_k».proof.Proof.Body
public import Idealize.ShloMosaic.Lib.PointwiseCore

@[expose] public section

/-! # The dual iteration along one line

A row of a block of rows and a column of a block of columns go through the same scalar recursion. -/

noncomputable section

namespace Cert.KernelIdeal.Tv

open Idealize.ShloMosaic Idealize.ShloMosaic.Pointwise Cert.KernelIdeal Cert.KernelIdeal.Gen

variable {F : FTy → Type} [FloatOps F]

/-- A line of 384 values. -/
abbrev Line (F : FTy → Type) := Fin 384 → F .f32

/-- The scalar a word encodes. -/
abbrev word (b : BitVec 32) : F .f32 := Scalar.ofBits .f32 b

/-- The line moved one place towards its start, zero at its end. -/
def next (a : Line F) (j : Fin 384) : F .f32 := if h : j.val < 383 then a ⟨1 + j.val, by omega⟩ else word 0x00000000#32

/-- The line moved one place towards its end, zero at its start. -/
def prev (a : Line F) (j : Fin 384) : F .f32 :=
  if j.val < 1 then word 0x00000000#32 else a ⟨j.val - 1, lt_of_le_of_lt (Nat.sub_le _ _) j.isLt⟩

/-- A quarter inside the line, zero at its last place. -/
def quarter (j : Fin 384) : F .f32 :=
  FloatOps.mulf (word 0x3E800000#32) (FloatOps.sitofp .f32 (BitVec.zeroExtend 32 (Scalar.cmpi .slt (BitVec.ofNat 32 j.val) 383#32)))

/-- One dual step before the extrapolation. -/
def dual (C u : Line F) (j : Fin 384) : F .f32 :=
  FloatOps.mulf (FloatOps.minimumf (word 0x3DCCCCCD#32) (FloatOps.maximumf (word 0xBDCCCCCD#32)
    (FloatOps.addf (C j) (FloatOps.addf (FloatOps.addf (u j) (next u j)) (FloatOps.addf (u j) (prev u j)))))) (quarter j)

/-- The dual line and its extrapolation after `n` steps. -/
def steps (C : Line F) : ℕ → Line F × Line F
  | 0 => (fun _ => word 0x00000000#32, fun _ => word 0x00000000#32)
  | i + 1 => (dual C (steps C i).2, fun j => FloatOps.addf (dual C (steps C i).2 j)
      (FloatOps.mulf (word (coef i)) (FloatOps.subf (dual C (steps C i).2 j) ((steps C i).1 j))))

/-- A quarter of the forward difference. -/
def grad (y : Line F) (j : Fin 384) : F .f32 := FloatOps.mulf (word 0x3E800000#32) (FloatOps.subf (next y j) (y j))

/-- The proximal point of a line. -/
def prox (y : Line F) (j : Fin 384) : F .f32 :=
  FloatOps.addf (y j) (FloatOps.mulf (word 0x40800000#32)
    (FloatOps.subf ((steps (grad y) 40).1 j) (prev (steps (grad y) 40).1 j)))

/-! ## A block of rows -/

theorem rowNext_apply (a : FVec F S32x384 .f32) (r : Fin 32) (j : Fin 384) :
    rowNext a (ix2 r j) = next (fun k => a (ix2 r k)) j := by
  pointwise [rowNext, next]

theorem rowPrev_apply (a : FVec F S32x384 .f32) (r : Fin 32) (j : Fin 384) :
    rowPrev a (ix2 r j) = prev (fun k => a (ix2 r k)) j := by
  pointwise [rowPrev, prev]
  rfl

theorem rowMask_apply (r : Fin 32) (j : Fin 384) : k0_pay1 (F := F) (ix2 r j) = quarter j := by
  pointwise [k0_pay1, quarter]
  rfl

theorem rowQ_apply (C u : FVec F S32x384 .f32) (r : Fin 32) (j : Fin 384) :
    rowQ C u (ix2 r j) = dual (fun k => C (ix2 r k)) (fun k => u (ix2 r k)) j := by
  unfold rowQ dual
  rw [← rowNext_apply, ← rowPrev_apply, ← rowMask_apply r j]
  rfl

/-- The dual variable of a block of rows, line by line. -/
theorem rowSt_apply (C : FVec F S32x384 .f32) (r : Fin 32) : ∀ i : ℕ,
    (fun k => (rowSt C i).1 (ix2 r k)) = (steps (fun k => C (ix2 r k)) i).1
      ∧ (fun k => (rowSt C i).2 (ix2 r k)) = (steps (fun k => C (ix2 r k)) i).2
  | 0 => ⟨rfl, rfl⟩
  | i + 1 => by
    have hq : (fun k => (rowSt C (i + 1)).1 (ix2 r k)) = (steps (fun k => C (ix2 r k)) (i + 1)).1 := by
      funext j
      refine (rowQ_apply C (rowSt C i).2 r j).trans ?_
      rw [(rowSt_apply C r i).2]; rfl
    refine ⟨hq, funext fun j => ?_⟩
    show FloatOps.addf ((rowSt C (i + 1)).1 (ix2 r j)) (FloatOps.mulf (word (coef i))
      (FloatOps.subf ((rowSt C (i + 1)).1 (ix2 r j)) ((rowSt C i).1 (ix2 r j)))) = _
    rw [congrFun hq j, congrFun (rowSt_apply C r i).1 j]; rfl

theorem rowC_apply (y : FVec F S32x384 .f32) (r : Fin 32) :
    (fun k => rowC y (ix2 r k)) = grad (fun k => y (ix2 r k)) := by
  funext j
  unfold grad
  rw [← rowNext_apply]; rfl

/-- The proximal point of a block of rows is the proximal point of each row. -/
theorem rowOut_apply (y : FVec F S32x384 .f32) (r : Fin 32) (j : Fin 384) :
    rowOut y (ix2 r j) = prox (fun k => y (ix2 r k)) j := by
  unfold prox
  rw [← rowC_apply, ← (rowSt_apply (rowC y) r 40).1, ← rowPrev_apply]; rfl

theorem rowDiff_apply (y : FVec F S32x384 .f32) (r : Fin 32) (j : Fin 384) :
    rowDiff y (ix2 r j) = FloatOps.subf (y (ix2 r j)) (prox (fun k => y (ix2 r k)) j) := by
  unfold rowDiff
  rw [shapeCast_self, ← rowOut_apply]; rfl

/-! ## A block of columns -/

theorem colNext_apply (a : FVec F S384x128 .f32) (r : Fin 128) (j : Fin 384) :
    colNext a (ix2 j r) = next (fun k => a (ix2 k r)) j := by
  pointwise [colNext, next]

theorem colPrev_apply (a : FVec F S384x128 .f32) (r : Fin 128) (j : Fin 384) :
    colPrev a (ix2 j r) = prev (fun k => a (ix2 k r)) j := by
  pointwise [colPrev, prev]
  rfl

theorem colMask_apply (r : Fin 128) (j : Fin 384) : k0_pay2 (F := F) (ix2 j r) = quarter j := by
  pointwise [k0_pay2, quarter]
  rfl

theorem colQ_apply (C u : FVec F S384x128 .f32) (r : Fin 128) (j : Fin 384) :
    colQ C u (ix2 j r) = dual (fun k => C (ix2 k r)) (fun k => u (ix2 k r)) j := by
  unfold colQ dual
  rw [← colNext_apply, ← colPrev_apply, ← colMask_apply r j]
  rfl

/-- The dual variable of a block of columns, line by line. -/
theorem colSt_apply (C : FVec F S384x128 .f32) (r : Fin 128) : ∀ i : ℕ,
    (fun k => (colSt C i).1 (ix2 k r)) = (steps (fun k => C (ix2 k r)) i).1
      ∧ (fun k => (colSt C i).2 (ix2 k r)) = (steps (fun k => C (ix2 k r)) i).2
  | 0 => ⟨rfl, rfl⟩
  | i + 1 => by
    have hq : (fun k => (colSt C (i + 1)).1 (ix2 k r)) = (steps (fun k => C (ix2 k r)) (i + 1)).1 := by
      funext j
      refine (colQ_apply C (colSt C i).2 r j).trans ?_
      rw [(colSt_apply C r i).2]; rfl
    refine ⟨hq, funext fun j => ?_⟩
    show FloatOps.addf ((colSt C (i + 1)).1 (ix2 j r)) (FloatOps.mulf (word (coef i))
      (FloatOps.subf ((colSt C (i + 1)).1 (ix2 j r)) ((colSt C i).1 (ix2 j r)))) = _
    rw [congrFun hq j, congrFun (colSt_apply C r i).1 j]; rfl

theorem colC_apply (y : FVec F S384x128 .f32) (r : Fin 128) :
    (fun k => colC y (ix2 k r)) = grad (fun k => y (ix2 k r)) := by
  funext j
  unfold grad
  rw [← colNext_apply]; rfl

/-- The proximal point of a block of columns is the proximal point of each column. -/
theorem colOut'_apply (y : FVec F S384x128 .f32) (r : Fin 128) (j : Fin 384) :
    colOut' y (ix2 j r) = prox (fun k => y (ix2 k r)) j := by
  unfold prox
  rw [← colC_apply, ← (colSt_apply (colC y) r 40).1, ← colPrev_apply]; rfl

theorem colOut_apply (y : FVec F S384x128 .f32) (r : Fin 128) (j : Fin 384) :
    colOut y (ix2 j r) = prox (fun k => y (ix2 k r)) j := by
  unfold colOut
  rw [shapeCast_self, colOut'_apply]

theorem colDiff_apply (y : FVec F S384x128 .f32) (r : Fin 128) (j : Fin 384) :
    colDiff y (ix2 j r) = FloatOps.subf (y (ix2 j r)) (prox (fun k => y (ix2 k r)) j) := by
  unfold colDiff
  rw [shapeCast_self, ← colOut'_apply]; rfl

theorem colIn_eq (x p : FVec F S384x128 .f32) : colIn x p = addf x p := by
  unfold colIn
  rw [shapeCast_self]

end Cert.KernelIdeal.Tv

end
-- ==== Proof.Trip.lean ====
module

public import proofs.«01_k».proof.Proof.Line
public import Idealize.ShloMosaic.Lib.Pipeline.ValueKit.Tiles
public import proofs.«01_k».proof.Proof.Gen.KernelIdeal.Launch
public import Idealize.ShloMosaic.Lib.Ring
public import Idealize.ShloMosaic.Lib.Tactic

@[expose] public section

set_option maxRecDepth 16384
set_option maxHeartbeats 4000000

/-! # One trip of the kernel's loop, run -/

noncomputable section

namespace Cert.KernelIdeal.Tv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pointwise
open Cert.KernelIdeal Cert.KernelIdeal.Gen

variable {F : FTy → Type} [FloatOps F]

local notation "𝕄" => MT nD τ sig Unit (Elt F) ℕ (UR sig nD τ) ℕ

/-- The four buffers a trip works on, each at given contents. -/
abbrev held (c : Dev nD) (o p q y : Memref sig .tc .vmem S384x384 .f32) (fo : BufTy.Contents (Elt F) o.view.ty)
    (fp : BufTy.Contents (Elt F) p.view.ty) (fq : BufTy.Contents (Elt F) q.view.ty) (fy : BufTy.Contents (Elt F) y.view.ty) : sProp 𝕄 :=
  iprop((o.view.loc (c : Thread nD τ) ↦[o.view.set]{fullShare} fo) ∗ (p.view.loc (c : Thread nD τ) ↦[p.view.set]{fullShare} fp)
    ∗ (q.view.loc (c : Thread nD τ) ↦[q.view.set]{fullShare} fq) ∗ (y.view.loc (c : Thread nD τ) ↦[y.view.set]{fullShare} fy))

/-- The pieces one trip stores into each of the four buffers, as functions of what it finds in them. -/
def tripRun (𝒱 : Variants) (c : Dev nD) (bd : Option 𝒱.V) (o p q y : Memref sig .tc .vmem S384x384 .f32) (ho : o.IsWhole) (hp : p.IsWhole)
    (hq : q.IsWhole) (hy : y.IsWhole) (fo : BufTy.Contents (Elt F) o.view.ty)
    (fp : BufTy.Contents (Elt F) p.view.ty) (fq : BufTy.Contents (Elt F) q.view.ty) (fy : BufTy.Contents (Elt F) y.view.ty) :
    Σ' (Lo : List (View.Piece (Elt F) S384x384 .f32)) (Lp : List (View.Piece (Elt F) S384x384 .f32))
      (Lq : List (View.Piece (Elt F) S384x384 .f32)), { Ly : List (View.Piece (Elt F) S384x384 .f32) // ∀ (E : Set ℕ),
      held c o p q y fo fp fq fy ⊢ wp frame (wpE (defs₀ (F := F)) 𝒱 (c : Thread nD τ) bd) E (trip (F := F) o p q y)
        (fun _ => held c o p q y (o.view.writes (Elt F) fo Lo) (p.view.writes (Elt F) fp Lp) (q.view.writes (Elt F) fq Lq)
          (y.view.writes (Elt F) fy Ly)) } := by
  refine ⟨?_, ?_, ?_, ?_, fun E => ?run⟩
  case run =>
    unfold trip
    iintro ⟨Ho, Hp, Hq, Hy⟩
    sl_exec
    sl_step
    sl_close

/-! ## What a trip leaves, place by place -/

/-- A picture of 384 by 384 values. -/
abbrev Pic (F : FTy → Type) := S384x384.Idx → F .f32

/-- The column step's result from the picture and its correction. -/
def yOf (x p : Pic F) : Pic F := fun i => prox (fun k => FloatOps.addf (x (ix2 k (i 1))) (p (ix2 k (i 1)))) (i 0)
/-- The column step's new correction. -/
def pOf (x p : Pic F) : Pic F := fun i => FloatOps.subf (FloatOps.addf (x i) (p i)) (yOf x p i)
/-- The row step's result. -/
def oOf (y q : Pic F) : Pic F := fun i => prox (fun k => FloatOps.addf (y (ix2 (i 0) k)) (q (ix2 (i 0) k))) (i 1)
/-- The row step's new correction. -/
def qOf (y q : Pic F) : Pic F := fun i => FloatOps.subf (FloatOps.addf (y i) (q i)) (oOf y q i)

/-- A block of columns of a picture, from column `o` on. -/
abbrev colCut (X : Pic F) (o : ℕ) (h : ∀ a, (![0, o] : Fin 2 → ℕ) a + S384x128.size a ≤ S384x384.size a) : FVec F S384x128 .f32 :=
  View.ld (Val := Elt F) (e' := .f32) X (Rect.unit ![0, o] S384x128.size h)

/-- A block of rows of a picture, from row `o` on. -/
abbrev rowCut (X : Pic F) (o : ℕ) (h : ∀ a, (![o, 0] : Fin 2 → ℕ) a + S32x384.size a ≤ S384x384.size a) : FVec F S32x384 .f32 :=
  View.ld (Val := Elt F) (e' := .f32) X (Rect.unit ![o, 0] S32x384.size h)

theorem colCut_apply (X : Pic F) (o : ℕ) (h) (b : Fin 384) (l : Fin 128) (hl : b.val = o + l.val) (k : Fin 384) :
    colCut X o h (ix2 k l) = X (ix2 k b) :=
  View.ld_unit_apply_of _ _ _ _ _ _ fun a => match a with
    | ⟨0, _⟩ => (Nat.zero_add _).symm
    | ⟨1, _⟩ => hl

theorem rowCut_apply (X : Pic F) (o : ℕ) (h) (a : Fin 384) (l : Fin 32) (hl : a.val = o + l.val) (k : Fin 384) :
    rowCut X o h (ix2 l k) = X (ix2 a k) :=
  View.ld_unit_apply_of _ _ _ _ _ _ fun a => match a with
    | ⟨0, _⟩ => hl
    | ⟨1, _⟩ => (Nat.zero_add _).symm

theorem picIx (i : S384x384.Idx) : ∃ a b : Fin 384, i = ix2 a b :=
  ⟨i 0, i 1, funext fun a => match a with
    | ⟨0, _⟩ => rfl
    | ⟨1, _⟩ => rfl⟩

/-- A place of a column block at offset `o`: the same row, and the column within the block. -/
theorem colIx (a b : Fin 384) (o : ℕ) (x : S384x128.Idx)
    (hx : ∀ d, ((ix2 a b : S384x384.Idx) d : ℕ) = (![0, o] : Fin 2 → ℕ) d + (x d : ℕ)) : ∃ l : Fin 128, b.val = o + l.val ∧ x = ix2 a l :=
  ⟨x 1, hx 1, funext fun d => match d with
    | ⟨0, _⟩ => Fin.ext ((hx 0).trans (Nat.zero_add _)).symm
    | ⟨1, _⟩ => rfl⟩

/-- A place of a row block at offset `o`: the row within the block, and the same column. -/
theorem rowIx (a b : Fin 384) (o : ℕ) (x : S32x384.Idx)
    (hx : ∀ d, ((ix2 a b : S384x384.Idx) d : ℕ) = (![o, 0] : Fin 2 → ℕ) d + (x d : ℕ)) : ∃ l : Fin 32, a.val = o + l.val ∧ x = ix2 l b :=
  ⟨x 0, hx 0, funext fun d => match d with
    | ⟨0, _⟩ => rfl
    | ⟨1, _⟩ => Fin.ext ((hx 1).trans (Nat.zero_add _)).symm⟩

/-- A column block's result, at a place of the picture. -/
theorem colTile (X P : Pic F) (i : S384x384.Idx) (o : ℕ) (h) :
    View.TileAt (Val := Elt F) (e := .f32) i ![0, o] S384x128.size (colOut (colIn (colCut X o h) (colCut P o h))) (yOf X P i) := by
  intro x hx
  obtain ⟨a, b, rfl⟩ := picIx i
  obtain ⟨l, hl, rfl⟩ := colIx a b o x hx
  refine (colOut_apply _ l a).trans ?_
  rw [colIn_eq]
  refine congrFun (congrArg prox (funext fun k => ?_)) a
  exact congrArg₂ FloatOps.addf (colCut_apply X o h b l hl k) (colCut_apply P o h b l hl k)

/-- A column block's new correction, at a place of the picture. -/
theorem colDiffTile (X P : Pic F) (i : S384x384.Idx) (o : ℕ) (h) :
    View.TileAt (Val := Elt F) (e := .f32) i ![0, o] S384x128.size (colDiff (colIn (colCut X o h) (colCut P o h))) (pOf X P i) := by
  intro x hx
  have hy := colTile X P i o h x hx
  obtain ⟨a, b, rfl⟩ := picIx i
  obtain ⟨l, hl, rfl⟩ := colIx a b o x hx
  refine (colDiff_apply _ l a).trans ?_
  refine congrArg₂ FloatOps.subf ?_ ((colOut_apply _ l a).symm.trans hy)
  rw [colIn_eq]
  exact congrArg₂ FloatOps.addf (colCut_apply X o h b l hl a) (colCut_apply P o h b l hl a)

/-- A row block's result, at a place of the picture. -/
theorem rowTile (Y Q : Pic F) (i : S384x384.Idx) (o : ℕ) (h) :
    View.TileAt (Val := Elt F) (e := .f32) i ![o, 0] S32x384.size (rowOut (addf (rowCut Y o h) (rowCut Q o h))) (oOf Y Q i) := by
  intro x hx
  obtain ⟨a, b, rfl⟩ := picIx i
  obtain ⟨l, hl, rfl⟩ := rowIx a b o x hx
  refine (rowOut_apply _ l b).trans ?_
  refine congrFun (congrArg prox (funext fun k => ?_)) b
  exact congrArg₂ FloatOps.addf (rowCut_apply Y o h a l hl k) (rowCut_apply Q o h a l hl k)

/-- A row block's new correction, at a place of the picture. -/
theorem rowDiffTile (Y Q : Pic F) (i : S384x384.Idx) (o : ℕ) (h) :
    View.TileAt (Val := Elt F) (e := .f32) i ![o, 0] S32x384.size (rowDiff (addf (rowCut Y o h) (rowCut Q o h))) (qOf Y Q i) := by
  intro x hx
  have hy := rowTile Y Q i o h x hx
  obtain ⟨a, b, rfl⟩ := picIx i
  obtain ⟨l, hl, rfl⟩ := rowIx a b o x hx
  refine (rowDiff_apply _ l b).trans ?_
  refine congrArg₂ FloatOps.subf ?_ ((rowOut_apply _ l b).symm.trans hy)
  exact congrArg₂ FloatOps.addf (rowCut_apply Y o h a l hl b) (rowCut_apply Q o h a l hl b)

section Reads

variable [∀ e, Nonempty (Elt F e)] (𝒱 : Variants) (c : Dev nD) (bd : Option 𝒱.V) (o p q y : Memref sig .tc .vmem S384x384 .f32) (ho : o.IsWhole)
  (hp : p.IsWhole) (hq : q.IsWhole) (hy : y.IsWhole) (fo : BufTy.Contents (Elt F) o.view.ty)
  (fp : BufTy.Contents (Elt F) p.view.ty) (fq : BufTy.Contents (Elt F) q.view.ty) (fy : BufTy.Contents (Elt F) y.view.ty)

/-- The pieces the column step stores. -/
abbrev yL (X P : Pic F) : List (View.Piece (Elt F) S384x384 .f32) :=
  [⟨Rect.unit ![0, 256] S384x128.size inb_S384x384_S384x128_0_256, colOut (colIn (colCut X 256 inb_S384x384_S384x128_0_256) (colCut P 256 inb_S384x384_S384x128_0_256))⟩,
   ⟨Rect.unit ![0, 128] S384x128.size inb_S384x384_S384x128_0_128, colOut (colIn (colCut X 128 inb_S384x384_S384x128_0_128) (colCut P 128 inb_S384x384_S384x128_0_128))⟩,
   ⟨Rect.unit ![0, 0] S384x128.size inb_S384x384_S384x128_0_0, colOut (colIn (colCut X 0 inb_S384x384_S384x128_0_0) (colCut P 0 inb_S384x384_S384x128_0_0))⟩]

theorem canon_y (X P : Pic F) : View.canon (yL X P) = yOf X P :=
  funext fun i => View.canon_eq_of_allAt _ i _ (View.cover_of_tiledL (yL X P) S384x128.size (by sl_kernel_rfl) i)
    (View.allAt_cons_unit _ _ _ _ _ (colTile X P i _ _) (View.allAt_cons_unit _ _ _ _ _ (colTile X P i _ _)
      (View.allAt_cons_unit _ _ _ _ _ (colTile X P i _ _) (View.allAt_nil _ _))))

theorem readCov_y (X P : Pic F) (o : ℕ) (h : ∀ a, (![o, 0] : Fin 2 → ℕ) a + S32x384.size a ≤ S384x384.size a) :
    y.view.readCov (yL X P) (Rect.unit (s := S384x384) ![o, 0] S32x384.size h).toLoadRect = rowCut (yOf X P) o h := by
  rw [← canon_y X P, View.readCov_eq_canon']; rfl

theorem rowTile_y (X P Q : Pic F) (i : S384x384.Idx) (o : ℕ) (h : ∀ a, (![o, 0] : Fin 2 → ℕ) a + S32x384.size a ≤ S384x384.size a) :
    View.TileAt (Val := Elt F) (e := .f32) i ![o, 0] S32x384.size
      (rowOut (addf (y.view.readCov (yL X P) (Rect.unit (s := S384x384) ![o, 0] S32x384.size h).toLoadRect) (rowCut Q o h)))
      (oOf (yOf X P) Q i) := by
  rw [readCov_y]; exact rowTile _ _ i o h

theorem rowDiffTile_y (X P Q : Pic F) (i : S384x384.Idx) (o : ℕ) (h : ∀ a, (![o, 0] : Fin 2 → ℕ) a + S32x384.size a ≤ S384x384.size a) :
    View.TileAt (Val := Elt F) (e := .f32) i ![o, 0] S32x384.size
      (rowDiff (addf (y.view.readCov (yL X P) (Rect.unit (s := S384x384) ![o, 0] S32x384.size h).toLoadRect) (rowCut Q o h)))
      (qOf (yOf X P) Q i) := by
  rw [readCov_y]; exact rowDiffTile _ _ i o h

theorem read_y : y.view.read (Elt F) (y.view.writes (Elt F) fy (tripRun 𝒱 c bd o p q y ho hp hq hy fo fp fq fy).2.2.2.1)
    = yOf (o.view.read (Elt F) fo) (p.view.read (Elt F) fp) := by
  have hc := View.cover_of_tiledL (tripRun 𝒱 c bd o p q y ho hp hq hy fo fp fq fy).2.2.2.1 S384x128.size (by sl_kernel_rfl)
  rw [View.read_writes_eq_canon _ _ _ hc]
  unfold tripRun
  dsimp only
  sl_unfold_words
  exact canon_y _ _

theorem read_p : p.view.read (Elt F) (p.view.writes (Elt F) fp (tripRun 𝒱 c bd o p q y ho hp hq hy fo fp fq fy).2.1)
    = pOf (o.view.read (Elt F) fo) (p.view.read (Elt F) fp) := by
  have hc := View.cover_of_tiledL (tripRun 𝒱 c bd o p q y ho hp hq hy fo fp fq fy).2.1 S384x128.size (by sl_kernel_rfl)
  rw [View.read_writes_eq_canon _ _ _ hc]
  funext i
  refine View.canon_eq_of_allAt _ i _ (hc i) ?_
  unfold tripRun
  dsimp only
  sl_unfold_words
  repeat refine View.allAt_cons_unit _ _ _ _ _ (colDiffTile _ _ i _ _) ?_
  exact View.allAt_nil _ _

theorem read_o : o.view.read (Elt F) (o.view.writes (Elt F) fo (tripRun 𝒱 c bd o p q y ho hp hq hy fo fp fq fy).1)
    = oOf (yOf (o.view.read (Elt F) fo) (p.view.read (Elt F) fp)) (q.view.read (Elt F) fq) := by
  have hc := View.cover_of_tiledL (tripRun 𝒱 c bd o p q y ho hp hq hy fo fp fq fy).1 S32x384.size (by sl_kernel_rfl)
  rw [View.read_writes_eq_canon _ _ _ hc]
  funext i
  refine View.canon_eq_of_allAt _ i _ (hc i) ?_
  unfold tripRun
  dsimp only
  sl_unfold_words
  repeat refine View.allAt_cons_unit _ _ _ _ _ (rowTile_y y _ _ _ i _ _) ?_
  exact View.allAt_nil _ _

theorem read_q : q.view.read (Elt F) (q.view.writes (Elt F) fq (tripRun 𝒱 c bd o p q y ho hp hq hy fo fp fq fy).2.2.1)
    = qOf (yOf (o.view.read (Elt F) fo) (p.view.read (Elt F) fp)) (q.view.read (Elt F) fq) := by
  have hc := View.cover_of_tiledL (tripRun 𝒱 c bd o p q y ho hp hq hy fo fp fq fy).2.2.1 S32x384.size (by sl_kernel_rfl)
  rw [View.read_writes_eq_canon _ _ _ hc]
  funext i
  refine View.canon_eq_of_allAt _ i _ (hc i) ?_
  unfold tripRun
  dsimp only
  sl_unfold_words
  repeat refine View.allAt_cons_unit _ _ _ _ _ (rowDiffTile_y y _ _ _ i _ _) ?_
  exact View.allAt_nil _ _

end Reads

end Cert.KernelIdeal.Tv

end
-- ==== Proof.Run.lean ====
module

public import proofs.«01_k».proof.Proof.Trip
public import Idealize.ShloMosaic.Lib.Pipeline.FrameBody

@[expose] public section

set_option maxRecDepth 16384
set_option maxHeartbeats 4000000

/-! # The whole body, run -/

noncomputable section

namespace Cert.KernelIdeal.Tv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- One outer step on the picture and the two corrections. -/
def turn (s : Pic F × Pic F × Pic F) : Pic F × Pic F × Pic F :=
  (oOf (yOf s.1 s.2.1) s.2.2, pOf s.1 s.2.1, qOf (yOf s.1 s.2.1) s.2.2)

/-- The picture and the corrections after `k` outer steps from `x`. -/
def turns (x : Pic F) : ℕ → Pic F × Pic F × Pic F
  | 0 => (x, fun _ => word 0x00000000#32, fun _ => word 0x00000000#32)
  | k + 1 => turn (turns x k)

/-- The picture the kernel returns. -/
def result (x : Pic F) : Pic F := (turns x 15).1

/-- Before trip `k` the buffers read as the state after `k` outer steps. -/
def inv (c : Dev nD) (o p q y : Memref sig .tc .vmem S384x384 .f32) (x : Pic F) (k : ℕ) (_ : Unit) : sProp 𝕄 :=
  iprop(∃ fo, ∃ fp, ∃ fq, ∃ fy, held c o p q y fo fp fq fy
    ∗ ⌜(o.view.read (Elt F) fo, p.view.read (Elt F) fp, q.view.read (Elt F) fq) = turns x k⌝)

/-- A trip moves the buffers on by one outer step. -/
theorem step (𝒱 : Variants) (c : Dev nD) (bd : Option 𝒱.V) (E : Set ℕ) (o p q y : Memref sig .tc .vmem S384x384 .f32) (ho : o.IsWhole)
    (hp : p.IsWhole) (hq : q.IsWhole) (hy : y.IsWhole) (x : Pic F) (k : ℕ) (u : Unit) :
    inv c o p q y x k u ⊢ wp frame (wpE (defs₀ (F := F)) 𝒱 (c : Thread nD τ) bd) E (trip (F := F) o p q y)
      (fun v => inv c o p q y x (k + 1) v) := by
  unfold inv
  iintro ⟨%fo, %fp, %fq, %fy, H, %h⟩
  iapply (wp_wand_r frame (wpE (defs₀ (F := F)) 𝒱 (c : Thread nD τ) bd) E)
  isplitl [H]
  · iapply ((tripRun 𝒱 c bd o p q y ho hp hq hy fo fp fq fy).2.2.2.2 E)
    iexact H
  · iintro %_ H
    iexists _; iexists _; iexists _; iexists _
    isplitl [H]; · iexact H
    ipureintro
    rw [read_o, read_p, read_q]
    show _ = turn (turns x k)
    rw [← h]
    rfl

theorem hz : (![0, 0] : Fin 2 → ℕ) = fun _ => 0 := by decide

/-- A store of a whole picture reads back as the picture. -/
theorem readWhole (v : View sig .tc .vmem S384x384 .f32) (f : v.ty.Contents (Elt F)) (w : Vec F S384x384 .f32) :
    v.read (Elt F) (v.writes (Elt F) f [⟨Rect.unit ![0, 0] S384x384.size inb_S384x384_S384x384_0_0, w⟩]) = w := by
  rw [View.read_writes_eq_canon _ _ _ (View.cover_of_tiledL [⟨Rect.unit ![0, 0] S384x384.size inb_S384x384_S384x384_0_0, w⟩] S384x384.size (by sl_kernel_rfl))]
  exact View.canon_unit_zero hz _ _

theorem zerosEq (w : Vec F S384x384 .f32)
    (h : w = shapeCast S384x384 (broadcast S384x384 (word (F := F) 0x00000000#32)) shapeCasts_S384x384_S384x384) :
    w = fun _ => word 0x00000000#32 := by
  rw [h, shapeCast_self]
  rfl

/-- The body from any contents of the output and of the three scratch buffers: the output ends as the result of the input. -/
theorem bodyRun (c : Dev nD) (arg0 : Memref sig .tc .vmem S384x384 .f32) (harg0 : arg0.IsWhole) (arg1 : Memref sig .tc .vmem S384x384 .f32)
    (harg1 : arg1.IsWhole) (arg2 : Memref sig .tc .vmem S384x384 .f32) (harg2 : arg2.IsWhole) (arg3 : Memref sig .tc .vmem S384x384 .f32)
    (harg3 : arg3.IsWhole) (arg4 : Memref sig .tc .vmem S384x384 .f32) (harg4 : arg4.IsWhole) (x d1 : Vec F S384x384 .f32)
    (f2 : BufTy.Contents (Elt F) arg2.view.ty) (f3 : BufTy.Contents (Elt F) arg3.view.ty) (f4 : BufTy.Contents (Elt F) arg4.view.ty) :
    (iprop(owns (c : Thread nD τ) arg0 fullShare x ∗ owns (c : Thread nD τ) arg1 fullShare d1
      ∗ (arg2.view.loc (c : Thread nD τ) ↦[arg2.view.set]{fullShare} f2) ∗ (arg3.view.loc (c : Thread nD τ) ↦[arg3.view.set]{fullShare} f3)
      ∗ (arg4.view.loc (c : Thread nD τ) ↦[arg4.view.set]{fullShare} f4)) : sProp 𝕄)
    ⊢ wp frame (wpE (defs₀ (F := F)) Variants.none (c : Thread nD τ) none) Set.univ
        (cc0__tv2d_kernel (F := F) arg0 harg0 arg1 harg1 arg2 harg2 arg3 harg3 arg4 harg4)
        (fun _ => iprop(owns (c : Thread nD τ) arg0 fullShare x ∗ owns (c : Thread nD τ) arg1 fullShare (result x)
          ∗ (∃ f, arg2.view.loc (c : Thread nD τ) ↦[arg2.view.set]{fullShare} f) ∗ (∃ f, arg3.view.loc (c : Thread nD τ) ↦[arg3.view.set]{fullShare} f)
          ∗ (∃ f, arg4.view.loc (c : Thread nD τ) ↦[arg4.view.set]{fullShare} f))) := by
  simp only [cc0__tv2d_kernel_eq_skeleton]
  unfold cc0__tv2d_kernel_skel
  unfold owns
  iintro ⟨⟨%f0, %hf0, H0⟩, ⟨%f1, %hf1, H1⟩, H2, H3, H4⟩
  obtain rfl := harg0.eq_unread hf0
  sl_exec
  sl_for (inv c arg1 arg2 arg3 arg4 x) $$ [H1 H2 H3 H4]
  case region =>
    intro k u
    refine BIBase.Entails.trans ?_ (Entails.of_eq (congrArg (fun b => wp frame (wpE (defs₀ (F := F)) Variants.none (c : Thread nD τ) none) Set.univ b
      (fun v => inv c arg1 arg2 arg3 arg4 x (k.val + 1) v)) (body_eq arg0 harg0 arg1 harg1 arg2 harg2 arg3 harg3 arg4 harg4 k u).symm))
    exact step Variants.none c none Set.univ arg1 arg2 arg3 arg4 harg1 harg2 harg3 harg4 x k.val u
  · unfold inv
    iexists _; iexists _; iexists _; iexists _
    isplitl [H1 H2 H3 H4]
    · isplitl [H1]; · iexact H1
      isplitl [H2]; · iexact H2
      isplitl [H3]; · iexact H3
      iexact H4
    ipureintro
    sl_unfold_words
    refine Prod.ext ?_ (Prod.ext ?_ ?_)
    · exact (readWhole _ _ _).trans ((View.readAt_eq_ld _ _ _).trans ((View.ld_unit_zero (S := S384x384) hz _ _).trans hf0))
    · exact (readWhole _ _ _).trans (zerosEq k0_pay3 rfl)
    · exact (readWhole _ _ _).trans (zerosEq k0_pay4 rfl)
  · unfold inv
    iintro %_ ⟨%fo, %fp, %fq, %fy, ⟨Ho, Hp, Hq, Hy⟩, %h⟩
    sl_step
    isplitl [H0]
    · iexists _; isplitr
      · ipureintro; exact harg0.read_unread _
      · iexact H0
    isplitl [Ho]
    · iexists _; isplitr
      · ipureintro; exact congrArg Prod.fst h
      · iexact Ho
    isplitl [Hp]; · iexists _; iexact Hp
    isplitl [Hq]; · iexists _; iexact Hq
    iexists _; iexact Hy

end Cert.KernelIdeal.Tv

end
-- ==== Proof.Frame.lean ====
module

public import proofs.«01_k».proof.Proof.Run
public import proofs.«01_k».proof.Proof.Gen.KernelIdeal.Frame
public import Idealize.ShloMosaic.Lib.Claim

@[expose] public section

set_option maxRecDepth 16384

/-! # The kernel's launch: it ends, leaves its argument alone, and returns the folded picture -/

noncomputable section

namespace Cert.KernelIdeal.Tv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input block, as a picture. -/
abbrev inp (c : Dev nD) (t : Fin cfg0.N) : Pic F := iblk m c 0 t

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => result (inp m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = result (inp m c t) := by dsimp only [dats]

theorem before0_0 (c : Dev nD) (t : Fin cfg0.N) (d) : (dats m 0 c).before 0 t d = iblk m c 0 t :=
  before0_0_of m (dats m 0 c) (A_eq m c 0) (after0_0 m c) t d

/-- A whole buffer through its memref is the buffer. -/
theorem wholePt (c : Dev nD) (b : Ref sig .tc) (f : Buf (Elt F) ((c : Thread nD τ).loc b)) :
    ((Memref.whole b).view.loc (c : Thread nD τ) ↦[(Memref.whole b).view.set]{fullShare} f : sProp 𝕄) = ((c : Thread nD τ).loc b) ↦{fullShare} f := by
  simp only [Memref.view_whole, View.set_whole]

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1]
  unfold Pipeline.ΦA
  rw [scopedRest0_eq]
  iintro ⟨⟨⟨⟨%f2, H2⟩, ⟨%f3, H3⟩, ⟨%f4, H4⟩⟩, Hr⟩, Ho, ⟨%d0, H0⟩, ⟨%d1, H1⟩⟩
  iapply (wp_wand_r frame (wpE (defs₀ (F := F)) Variants.none (c : Thread nD τ) none) Set.univ)
  isplitl [H0 H1 H2 H3 H4]
  · iapply (bodyRun c _ _ _ _ (Memref.whole cc0_scratch0) (Memref.isWhole_whole _) (Memref.whole cc0_scratch1) (Memref.isWhole_whole _)
      (Memref.whole cc0_scratch2) (Memref.isWhole_whole _) (inp m c t) ((dats m 0 c).before 1 t d1) f2 f3 f4)
    isplitl [H0]; · iexact H0
    isplitl [H1]; · iexact H1
    isplitl [H2]; · iapply (Entails.of_eq (wholePt c cc0_scratch0 f2).symm); iexact H2
    isplitl [H3]; · iapply (Entails.of_eq (wholePt c cc0_scratch1 f3).symm); iexact H3
    iapply (Entails.of_eq (wholePt c cc0_scratch2 f4).symm); iexact H4
  · iintro %_ ⟨H0, H1, ⟨%g2, H2⟩, ⟨%g3, H3⟩, ⟨%g4, H4⟩⟩
    isplitl [H2 H3 H4 Hr]
    · isplitl [H2 H3 H4]
      · isplitl [H2]; · iexists g2; iapply (Entails.of_eq (wholePt c cc0_scratch0 g2)); iexact H2
        isplitl [H3]; · iexists g3; iapply (Entails.of_eq (wholePt c cc0_scratch1 g3)); iexact H3
        iexists g4; iapply (Entails.of_eq (wholePt c cc0_scratch2 g4)); iexact H4
      iexact Hr
    isplitl [Ho]; · iexact Ho
    isplitl [H0]; · iexact H0
    iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The kernel ends, with its argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_main_quiescent m ρ))

/-! ## The result -/

/-- The array the kernel returns: the folded picture of its argument. -/
def out (c : Dev nD) : Buf (Elt F) ((c.tc : Thread nD τ).loc main_v0) := result (F := F) (m ((c.tc : Thread nD τ).loc main_arg0))

theorem inp_eq (c : Dev nD) (t : Fin cfg0.N) : inp m c t = m ((c.tc : Thread nD τ).loc main_arg0) := by
  obtain rfl : t = t0_0 := fin_N0 t
  have hz' : (fun a => win0_0.index t0_0 a * main_arg0.ty.shape.size a) = fun _ => 0 := funext fun a => by fin_cases a <;> decide
  exact Memref.read_access_unit_zero (Elt F) main_arg0 hz' (fun a => by rw [congrFun hz' a]; simp) (m ((c.tc : Thread nD τ).loc main_arg0))

theorem flushed_eq (c : Dev nD) (t : Fin cfg0.N) (_ : (cfg0.win 1).flush t = true) :
    (dats m 0 c).flushed 1 t = ((cfg0.win 1).blk t).view.read (Elt F) (out m c) := by
  obtain rfl : t = t0_0 := fin_N0 t
  show (cfg0.win 1).cut (grid0.coords t0_0) ((dats m 0 c).after 1 t0_0) = _
  rw [after0_1, inp_eq]
  have hz' : (fun a => win0_1.index t0_0 a * main_v0.ty.shape.size a) = fun _ => 0 := funext fun a => by fin_cases a <;> decide
  exact (Memref.read_access_unit_zero (Elt F) main_v0 hz' (fun a => by rw [congrFun hz' a]; simp) (out m c)).symm

theorem final_o (c : Dev nD) : (dats m 0 c).arrAt 1 cfg0.N = out m c :=
  (dats m 0 c).arrAt_eq_of_cover 1 (out m c) (flushed_eq m c) fun i =>
    ⟨t0_0, flush0_1 t0_0, by
      show i ∈ ((View.whole main_v0).slice (win0_1.rect t0_0)).set
      rw [View.set_slice_whole, Rect.mem_set_unit]
      intro a
      have h0 : (i 0 : Nat) < 384 := (i 0).isLt
      have h1 : (i 1 : Nat) < 384 := (i 1).isLt
      match a with
      | ⟨0, _⟩ => exact ⟨(Nat.zero_le _ : 0 ≤ (i 0 : Nat)), h0⟩
      | ⟨1, _⟩ => exact ⟨(Nat.zero_le _ : 0 ≤ (i 1 : Nat)), h1⟩⟩

theorem run : θ_run defs (onTc (τ := τ) (main (F := F))) ⟨m, fun _ => 0, ρ⟩ (fun r => ∀ c : Dev nD,
      r.2.mem ((c.tc : Thread nD τ).loc main_v0) = out m c
      ∧ r.2.mem ((c.tc : Thread nD τ).loc main_arg0) = m ((c.tc : Thread nD τ).loc main_arg0)) :=
  (θ_run defs _ _).mono (fun _ h c => ⟨((h c).1 1).trans (final_o m c), ((h c).1 0).trans ((dats m 0 c).arrAt_in 0 rfl _)⟩) (run_main m ρ)

end Cert.KernelIdeal.Tv

end
-- ==== Proof.RefLine.lean ====
module

public import proofs.«01_k».proof.Proof.Line
public import proofs.«01_k».proof.Proof.Gen.ReferenceIdeal.Skeleton

@[expose] public section

set_option maxRecDepth 16384

/-! # The reference's iteration along one line

The reference's pictures of 384 rows, read one row at a time. -/

noncomputable section

namespace Cert.ReferenceIdeal.Tv

open Idealize.ShloMosaic Idealize.ShloMosaic.Pointwise Cert.ReferenceIdeal Cert.ReferenceIdeal.Gen
open Cert.KernelIdeal.Tv (Line word coef)

variable {F : FTy → Type} [FloatOps F]

/-- The differences of a line: one value fewer than the line has. -/
abbrev Gaps (F : FTy → Type) := Fin 383 → F .f32

/-- The transpose of the forward difference along a line. -/
def back (w : Gaps F) (j : Fin 384) : F .f32 :=
  if j.val < 1 then FloatOps.subf (word 0x00000000#32) (w 0)
  else if h : j.val < 383 then FloatOps.subf (w ⟨j.val - 1, by omega⟩) (w ⟨j.val, h⟩)
  else w 382

/-- What is left of the line once the dual is taken off. -/
def rest (y : Line F) (w : Gaps F) (j : Fin 384) : F .f32 := FloatOps.subf (y j) (back w j)

/-- One projected gradient step of the dual. -/
def move (y : Line F) (w : Gaps F) (j : Fin 383) : F .f32 :=
  FloatOps.minimumf (word 0x3DCCCCCD#32) (FloatOps.maximumf (word 0xBDCCCCCD#32)
    (FloatOps.addf (w j) (FloatOps.divf
      (FloatOps.subf (rest y w ⟨1 + j.val, by omega⟩) (rest y w ⟨j.val, by omega⟩)) (word 0x40800000#32))))

/-- The transpose of the forward difference along every row. -/
def backRows (w : FVec F S384x383 .f32) : FVec F S384x384 .f32 :=
  concatenate S384x384 1
    [⟨S384x1, subf (broadcast S384x1 (word 0x00000000#32)) (extractStridedSlice S384x1 ![0, 0] w slices_S384x383_o0_0_S384x1)⟩,
     ⟨S384x382, subf (extractStridedSlice S384x382 ![0, 0] w slices_S384x383_o0_0_S384x382)
        (extractStridedSlice S384x382 ![0, 1] w slices_S384x383_o0_1_S384x382)⟩,
     ⟨S384x1, extractStridedSlice S384x1 ![0, 382] w slices_S384x383_o0_382_S384x1⟩]
    concatenates_S384x1_S384x382_S384x1_S384x384_d1

/-- One projected gradient step of every row's dual. -/
def moveRows (y : FVec F S384x384 .f32) (w : FVec F S384x383 .f32) : FVec F S384x383 .f32 :=
  minimumf (broadcast S384x383 (word 0x3DCCCCCD#32)) (maximumf (broadcast S384x383 (word 0xBDCCCCCD#32))
    (addf w (divf (subf (extractStridedSlice S384x383 ![0, 1] (subf y (backRows w)) slices_S384x384_o0_1_S384x383)
      (extractStridedSlice S384x383 ![0, 0] (subf y (backRows w)) slices_S384x384_o0_0_S384x383))
      (broadcast S384x383 (word 0x40800000#32)))))

/-- The column loop steps the transposed sum of picture and correction. -/
theorem pay5_eq (x p : FVec F S384x384 .f32) (w : FVec F S384x383 .f32) : k0_pay5 x p w = moveRows (k0_pay3 x p) w := rfl

/-- The row loop steps the sum of the column result and its correction. -/
theorem pay11_eq (x p q : FVec F S384x384 .f32) (z w : FVec F S384x383 .f32) :
    k0_pay11 x p q z w = moveRows (k0_pay9 x p q z) w := rfl

/-- A row of the transposed difference is the transposed difference of the row. -/
theorem backRows_apply (w : FVec F S384x383 .f32) (r j : Fin 384) : backRows w (ix2 r j) = back (fun k => w (ix2 r k)) j := by
  pointwise [backRows, back]
  by_cases h1 : j.val < 1
  · simp only [h1, if_true, dite_true]
    congr 3; exact Fin.ext (by show j.val = 0; omega)
  · by_cases h2 : j.val < 383
    · have h3 : j.val - 1 < 382 := by omega
      simp only [h1, h2, h3, if_false, dite_true, dite_false]
      congr 3; exact Fin.ext (by show 1 + (j.val - 1) = j.val; omega)
    · have h3 : ¬ j.val - 1 < 382 := by omega
      simp only [h1, h2, h3, if_false, dite_false]
      congr 2; exact Fin.ext (by have := j.isLt; show 382 + (j.val - 1 - 382) = 382; omega)

/-- A row of a step is the step of the row. -/
theorem moveRows_apply (y : FVec F S384x384 .f32) (w : FVec F S384x383 .f32) (r : Fin 384) (j : Fin 383) :
    moveRows y w (ix2 r j) = move (fun k => y (ix2 r k)) (fun k => w (ix2 r k)) j := by
  unfold move rest
  rw [← backRows_apply, ← backRows_apply]
  generalize hb : backRows w = b
  pointwise [moveRows]
  simp only [hb]

/-- The column loop reads columns. -/
theorem pay3_apply (x p : FVec F S384x384 .f32) (r j : Fin 384) :
    k0_pay3 x p (ix2 r j) = FloatOps.addf (x (ix2 j r)) (p (ix2 j r)) := by
  pointwise [k0_pay3]

/-- The column result, place by place. -/
theorem pay7_apply (x p : FVec F S384x384 .f32) (z : FVec F S384x383 .f32) (r j : Fin 384) :
    k0_pay7 x p z (ix2 r j) = rest (fun k => FloatOps.addf (x (ix2 k j)) (p (ix2 k j))) (fun k => z (ix2 j k)) r := by
  unfold rest
  rw [← backRows_apply]
  have h : k0_pay7 x p z = transpose S384x384 [1, 0] (subf (k0_pay3 x p) (backRows z)) transposes_S384x384_p1_0_S384x384 := rfl
  rw [h]
  generalize hb : backRows z = b
  pointwise [k0_pay3]

/-- The row result, place by place. -/
theorem pay13_apply (x p q : FVec F S384x384 .f32) (v z : FVec F S384x383 .f32) (r j : Fin 384) :
    k0_pay13 x p q v z (ix2 r j) = rest (fun k => FloatOps.addf (k0_pay7 x p v (ix2 r k)) (q (ix2 r k))) (fun k => z (ix2 r k)) j := by
  unfold rest
  rw [← backRows_apply]
  rfl

/-- The dual of a line and its extrapolation after `n` steps. -/
def moves (y : Line F) : ℕ → Gaps F × Gaps F
  | 0 => (fun _ => word 0x00000000#32, fun _ => word 0x00000000#32)
  | i + 1 => (move y (moves y i).2, fun j => FloatOps.addf (move y (moves y i).2 j)
      (FloatOps.mulf (word (coef i)) (FloatOps.subf (move y (moves y i).2 j) ((moves y i).1 j))))

/-- The same for every row. -/
def movesRows (y : FVec F S384x384 .f32) : ℕ → FVec F S384x383 .f32 × FVec F S384x383 .f32
  | 0 => (k0_pay4, k0_pay4)
  | i + 1 => (moveRows y (movesRows y i).2, addf (moveRows y (movesRows y i).2)
      (mulf (broadcast S384x383 (word (coef i))) (subf (moveRows y (movesRows y i).2) (movesRows y i).1)))

/-- The duals of all rows are those of each row. -/
theorem movesRows_apply (y : FVec F S384x384 .f32) (r : Fin 384) : ∀ i : ℕ,
    (fun k => (movesRows y i).1 (ix2 r k)) = (moves (fun k => y (ix2 r k)) i).1
      ∧ (fun k => (movesRows y i).2 (ix2 r k)) = (moves (fun k => y (ix2 r k)) i).2
  | 0 => ⟨rfl, rfl⟩
  | i + 1 => by
    have hq : (fun k => (movesRows y (i + 1)).1 (ix2 r k)) = (moves (fun k => y (ix2 r k)) (i + 1)).1 := by
      funext j
      refine (moveRows_apply y (movesRows y i).2 r j).trans ?_
      rw [(movesRows_apply y r i).2]; rfl
    refine ⟨hq, funext fun j => ?_⟩
    show FloatOps.addf ((movesRows y (i + 1)).1 (ix2 r j)) (FloatOps.mulf (word (coef i))
      (FloatOps.subf ((movesRows y (i + 1)).1 (ix2 r j)) ((movesRows y i).1 (ix2 r j)))) = _
    rw [congrFun hq j, congrFun (movesRows_apply y r i).1 j]; rfl

/-- The proximal point of a line. -/
def near (y : Line F) (j : Fin 384) : F .f32 := rest y (moves y 40).1 j

/-- The columns' proximal points: the picture and the correction added, each column taken to its proximal point. -/
theorem pay7_moves (x p : FVec F S384x384 .f32) (r j : Fin 384) :
    k0_pay7 x p (movesRows (k0_pay3 x p) 40).1 (ix2 r j) = near (fun k => FloatOps.addf (x (ix2 k j)) (p (ix2 k j))) r := by
  rw [pay7_apply, (movesRows_apply (k0_pay3 x p) j 40).1]
  simp only [pay3_apply]; rfl

/-- The rows' proximal points. -/
theorem pay13_moves (x p q : FVec F S384x384 .f32) (v : FVec F S384x383 .f32) (r j : Fin 384) :
    k0_pay13 x p q v (movesRows (k0_pay9 x p q v) 40).1 (ix2 r j)
      = near (fun k => FloatOps.addf (k0_pay7 x p v (ix2 r k)) (q (ix2 r k))) j := by
  rw [pay13_apply, (movesRows_apply (k0_pay9 x p q v) r 40).1]; rfl

end Cert.ReferenceIdeal.Tv

end
-- ==== Proof.RefRun.lean ====
module

public import proofs.«01_k».proof.Proof.RefLine
public import proofs.«01_k».proof.Proof.Gen.ReferenceIdeal.Frame
public import proofs.«01_k».proof.Proof.Gen.ReferenceIdeal.Value
public import Idealize.ShloMosaic.Lib.Claim

@[expose] public section

set_option maxRecDepth 16384

/-! # The reference's launch, in closed form -/

noncomputable section

namespace Cert.ReferenceIdeal.Tv

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.ReferenceIdeal Cert.ReferenceIdeal.Gen
open Idealize.ShloMosaic.Pointwise
open Cert.KernelIdeal.Tv (Line word coef)

variable {F : FTy → Type} [FloatOps F]

/-- The table of extrapolation factors. -/
def table : Vec F S40 .f32 := fun i => word (coef (i 0).val)

/-- Trip `k` of the column loop reads entry `k` of the table. -/
theorem off1_eq : ∀ k : Fin k0_t2_loop.trips, k0_off1 k 0 = k.val := by decide +kernel
/-- Trip `k` of the row loop reads entry `k` of the table. -/
theorem off2_eq : ∀ k : Fin k0_t3_loop.trips, k0_off2 k 0 = k.val := by decide +kernel

variable (𝒱 : Variants) (c : Dev nD) (bd : Option 𝒱.V) (a0 : Memref sig .tc .vmem S384x384 .f32) (h0 : a0.IsWhole)
  (a1 : Memref sig .tc .smem S40 .f32) (h1 : a1.IsWhole) (a2 : Memref sig .tc .vmem S384x384 .f32) (h2 : a2.IsWhole)

/-- One scalar of the table. -/
theorem factor (X : BufTy.Contents (Elt F) a1.view.ty) (hX : a1.view.read (Elt F) X = table) (off : Fin 1 → ℕ) (k : ℕ) (h : off 0 = k)
    (hb : ∀ a, off a + S1.size a ≤ S40.size a) (i : S1.Idx) :
    View.readAt (Elt F) a1.view (Rect.unit (s := S40) off S1.size hb).toLoadRect X i = word (coef k) := by
  rw [View.readAt_eq_ld, hX]
  subst h
  show word (coef _) = _
  congr 2
  show off 0 + 1 * (i 0).val = off 0
  have : (i 0).val < 1 := (i 0).isLt
  omega

/-- One trip of the column loop. -/
theorem trip2 (x p : FVec F S384x384 .f32) (X : BufTy.Contents (Elt F) a1.view.ty) (hX : a1.view.read (Elt F) X = table)
    (k : Fin k0_t2_loop.trips) (s : FVec F S384x383 .f32 × FVec F S384x383 .f32) :
    tripR_k0_t2 𝒱 c bd a0 h0 a1 h1 a2 h2 x p X k s = (k0_pay5 x p s.2, k0_pay6 x p s.1 s.2 (word (coef k.val))) := by
  rw [← factor a1 X hX (k0_off1 k) k.val (off1_eq k) (k0_off1_inb k) (Shape.Idx.first (by decide))]
  unfold tripR_k0_t2 trip_k0_t2
  rfl

/-- One trip of the row loop. -/
theorem trip3 (x p q : FVec F S384x384 .f32) (v : FVec F S384x383 .f32) (X : BufTy.Contents (Elt F) a1.view.ty)
    (hX : a1.view.read (Elt F) X = table) (k : Fin k0_t3_loop.trips) (s : FVec F S384x383 .f32 × FVec F S384x383 .f32) :
    tripR_k0_t3 𝒱 c bd a0 h0 a1 h1 a2 h2 x p q v X k s = (k0_pay11 x p q v s.2, k0_pay12 x p q v s.1 s.2 (word (coef k.val))) := by
  rw [← factor a1 X hX (k0_off2 k) k.val (off2_eq k) (k0_off2_inb k) (Shape.Idx.first (by decide))]
  unfold tripR_k0_t3 trip_k0_t3
  rfl

/-- The column loop after `n` trips. -/
theorem st2 (x p : FVec F S384x384 .f32) (X : BufTy.Contents (Elt F) a1.view.ty) (hX : a1.view.read (Elt F) X = table) :
    ∀ n : ℕ, n ≤ k0_t2_loop.trips → st_k0_t2 𝒱 c bd a0 h0 a1 h1 a2 h2 x p X (k0_pay4, k0_pay4) n = movesRows (k0_pay3 x p) n
  | 0, _ => rfl
  | n + 1, h => by
    refine (st_k0_t2_succ 𝒱 c bd a0 h0 a1 h1 a2 h2 x p X (k0_pay4, k0_pay4) ⟨n, h⟩).trans ?_
    rw [trip2 𝒱 c bd a0 h0 a1 h1 a2 h2 x p X hX, st2 x p X hX n (Nat.le_of_succ_le h)]
    rfl

/-- The row loop after `n` trips. -/
theorem st3 (x p q : FVec F S384x384 .f32) (v : FVec F S384x383 .f32) (X : BufTy.Contents (Elt F) a1.view.ty)
    (hX : a1.view.read (Elt F) X = table) :
    ∀ n : ℕ, n ≤ k0_t3_loop.trips → st_k0_t3 𝒱 c bd a0 h0 a1 h1 a2 h2 x p q v X (k0_pay10, k0_pay10) n = movesRows (k0_pay9 x p q v) n
  | 0, _ => rfl
  | n + 1, h => by
    refine (st_k0_t3_succ 𝒱 c bd a0 h0 a1 h1 a2 h2 x p q v X (k0_pay10, k0_pay10) ⟨n, h⟩).trans ?_
    rw [trip3 𝒱 c bd a0 h0 a1 h1 a2 h2 x p q v X hX, st3 x p q v X hX n (Nat.le_of_succ_le h)]
    rfl

/-- The duals of the columns, after the inner loop. -/
abbrev colDual (x p : FVec F S384x384 .f32) : FVec F S384x383 .f32 := (movesRows (k0_pay3 x p) 40).1

/-- The duals of the rows, after the inner loop. -/
abbrev rowDual (x p q : FVec F S384x384 .f32) : FVec F S384x383 .f32 := (movesRows (k0_pay9 x p q (colDual x p)) 40).1

/-- One outer step of the reference. -/
def pass (s : FVec F S384x384 .f32 × FVec F S384x384 .f32 × FVec F S384x384 .f32) :
    FVec F S384x384 .f32 × FVec F S384x384 .f32 × FVec F S384x384 .f32 :=
  (k0_pay13 s.1 s.2.1 s.2.2 (colDual s.1 s.2.1) (rowDual s.1 s.2.1 s.2.2), k0_pay8 s.1 s.2.1 (colDual s.1 s.2.1),
    k0_pay14 s.1 s.2.1 s.2.2 (colDual s.1 s.2.1) (rowDual s.1 s.2.1 s.2.2))

/-- The reference's state after `n` outer steps. -/
def passes (x : FVec F S384x384 .f32) : ℕ → FVec F S384x384 .f32 × FVec F S384x384 .f32 × FVec F S384x384 .f32
  | 0 => (x, k0_pay1, k0_pay2)
  | n + 1 => pass (passes x n)

/-- One trip of the outer loop. -/
theorem trip1 (X : BufTy.Contents (Elt F) a1.view.ty) (hX : a1.view.read (Elt F) X = table)
    (k : Fin k0_t1_loop.trips) (s : FVec F S384x384 .f32 × FVec F S384x384 .f32 × FVec F S384x384 .f32) :
    tripR_k0_t1 𝒱 c bd a0 h0 a1 h1 a2 h2 X k s = pass s := by
  have t2 : k0_t2_loop.trips = 40 := by decide +kernel
  have t3 : k0_t3_loop.trips = 40 := by decide +kernel
  have e2 := (st2 𝒱 c bd a0 h0 a1 h1 a2 h2 s.1 s.2.1 X hX k0_t2_loop.trips le_rfl).trans (congrArg _ t2)
  have e3 := (st3 𝒱 c bd a0 h0 a1 h1 a2 h2 s.1 s.2.1 s.2.2 (colDual s.1 s.2.1) X hX k0_t3_loop.trips le_rfl).trans (congrArg _ t3)
  unfold tripR_k0_t1 trip_k0_t1
  show (k0_pay13 s.1 s.2.1 s.2.2 (st_k0_t2 𝒱 c bd a0 h0 a1 h1 a2 h2 s.1 s.2.1 X (k0_pay4, k0_pay4) k0_t2_loop.trips).1
      (st_k0_t3 𝒱 c bd a0 h0 a1 h1 a2 h2 s.1 s.2.1 s.2.2 (st_k0_t2 𝒱 c bd a0 h0 a1 h1 a2 h2 s.1 s.2.1 X (k0_pay4, k0_pay4) k0_t2_loop.trips).1
        X (k0_pay10, k0_pay10) k0_t3_loop.trips).1,
    k0_pay8 s.1 s.2.1 (st_k0_t2 𝒱 c bd a0 h0 a1 h1 a2 h2 s.1 s.2.1 X (k0_pay4, k0_pay4) k0_t2_loop.trips).1,
    k0_pay14 s.1 s.2.1 s.2.2 (st_k0_t2 𝒱 c bd a0 h0 a1 h1 a2 h2 s.1 s.2.1 X (k0_pay4, k0_pay4) k0_t2_loop.trips).1
      (st_k0_t3 𝒱 c bd a0 h0 a1 h1 a2 h2 s.1 s.2.1 s.2.2 (st_k0_t2 𝒱 c bd a0 h0 a1 h1 a2 h2 s.1 s.2.1 X (k0_pay4, k0_pay4) k0_t2_loop.trips).1
        X (k0_pay10, k0_pay10) k0_t3_loop.trips).1) = _
  rw [e2, e3]
  rfl

/-- The outer loop after `n` trips. -/
theorem st1 (x : FVec F S384x384 .f32) (X : BufTy.Contents (Elt F) a1.view.ty) (hX : a1.view.read (Elt F) X = table) :
    ∀ n : ℕ, n ≤ k0_t1_loop.trips → st_k0_t1 𝒱 c bd a0 h0 a1 h1 a2 h2 X (x, k0_pay1, k0_pay2) n = passes x n
  | 0, _ => rfl
  | n + 1, h => by
    refine (st_k0_t1_succ 𝒱 c bd a0 h0 a1 h1 a2 h2 X (x, k0_pay1, k0_pay2) ⟨n, h⟩).trans ?_
    rw [trip1 𝒱 c bd a0 h0 a1 h1 a2 h2 X hX, st1 x X hX n (Nat.le_of_succ_le h)]
    rfl

/-- The origin. -/
theorem hz : (![0, 0] : Fin 2 → ℕ) = fun _ => 0 := by funext a; fin_cases a <;> rfl

/-- What the body leaves in the output's buffer. -/
theorem left_eq (x : Vec F S384x384 .f32) : out0_A_2 c a0 h0 a1 h1 a2 h2 x table = (passes x 15).1 := by
  have t1 : k0_t1_loop.trips = 15 := by decide +kernel
  have e1 := (st1 Variants.none c none a0 h0 a1 h1 a2 h2 x (h1.unread table) (h1.read_unread table) k0_t1_loop.trips le_rfl).trans (congrArg _ t1)
  have hx : View.readAt (Elt F) a0.view (Rect.unit (s := S384x384) ![0, 0] S384x384.size inb_S384x384_S384x384_0_0).toLoadRect (h0.unread x) = x :=
    (View.readAt_eq_ld _ _ _).trans ((View.ld_unit_zero (S := S384x384) hz _ _).trans (h0.read_unread x))
  unfold out0_A_2
  rw [View.read_writes_eq_canon _ _ _ (cover0_A_2 c a0 h0 a1 h1 a2 h2 x table)]
  unfold kernelRun0_A
  refine (View.canon_unit_zero hz _ _).trans ?_
  show (st_k0_t1 Variants.none c none a0 h0 a1 h1 a2 h2 (h1.unread table)
    (View.readAt (Elt F) a0.view (Rect.unit (s := S384x384) ![0, 0] S384x384.size inb_S384x384_S384x384_0_0).toLoadRect (h0.unread x), k0_pay1, k0_pay2)
    k0_t1_loop.trips).1 = _
  rw [hx, e1]

/-! ## The launch -/

variable (m : (ℓ : Loc nD τ sig) → Buf (Elt F) ℓ) (ρ : Dev nD → PrngReg)

/-- The array the reference returns. -/
def out : Buf (Elt F) ((c.tc : Thread nD τ).loc main_v0) := (passes (F := F) (m ((c.tc : Thread nD τ).loc main_arg0)) 15).1

/-- The picture the body reads is the argument. -/
theorem picture_eq (t : Fin cfg0.N) : (iblk m c 0 t : Vec F S384x384 .f32) = m ((c.tc : Thread nD τ).loc main_arg0) := by
  obtain rfl : t = t0_0 := fin_N0 t
  have hz' : (fun a => win0_0.index t0_0 a * main_arg0.ty.shape.size a) = fun _ => 0 := funext fun a => by fin_cases a <;> decide
  exact (Memref.read_access_unit_zero (Elt F) main_arg0 hz' (fun a => by rw [congrFun hz' a]; simp) (V m c main_arg0)).trans (V_main_arg0 m c)

/-- The host writes the factors. -/
theorem lit_eq : ∀ i : Fin 40, lit0 i = coef i.val := by decide

/-- The array the host fills is the table. -/
theorem V_table : (V m c main_cst : Vec F S40 .f32) = table := by
  funext i
  have hr : (S40.rowMajor i).val = (i 0).val := Shape.rowMajor_val_one i
  exact congrArg (FloatOps.ofBits .f32) ((lit_eq (S40.rowMajor i)).trans (congrArg coef hr))

/-- The table the body reads. -/
theorem table_eq (t : Fin cfg0.N) : (iblk m c 1 t : Vec F S40 .f32) = table := by
  obtain rfl : t = t0_0 := fin_N0 t
  have hz' : (fun a => win0_1.index t0_0 a * main_cst.ty.shape.size a) = fun _ => 0 := funext fun a => by fin_cases a <;> decide
  exact (Memref.read_access_unit_zero (Elt F) main_cst hz' (fun a => by rw [congrFun hz' a]; simp) (V m c main_cst)).trans (V_table c m)

/-- What is written back. -/
theorem flushed_eq (t : Fin cfg0.N) (_ : (cfg0.win 2).flush t = true) :
    (dats m 0 c).flushed 2 t = ((cfg0.win 2).blk t).view.read (Elt F) (out c m) := by
  obtain rfl : t = t0_0 := fin_N0 t
  have e : out0_A_2 c (ms0_0 t0_0) (hs0_0 t0_0) (ms0_1 t0_0) (hs0_1 t0_0) (ms0_2 t0_0) (hs0_2 t0_0) (iblk m c 0 t0_0) (iblk m c 1 t0_0) = out c m := by
    rw [table_eq, picture_eq, left_eq]; rfl
  rw [Value.flushed2_A, e]
  have hz' : (fun a => win0_2.index t0_0 a * main_v0.ty.shape.size a) = fun _ => 0 := funext fun a => by fin_cases a <;> decide
  exact (Memref.read_access_unit_zero (Elt F) main_v0 hz' (fun a => by rw [congrFun hz' a]; simp) (out c m)).symm

/-- The array at the end. -/
theorem final_o : (dats m 0 c).arrAt 2 cfg0.N = out c m :=
  (dats m 0 c).arrAt_eq_of_cover 2 (out c m) (flushed_eq c m) fun i =>
    ⟨t0_0, flush0_2 t0_0, by
      show i ∈ ((View.whole main_v0).slice (win0_2.rect t0_0)).set
      rw [View.set_slice_whole, Rect.mem_set_unit]
      intro a
      have h0 : (i 0 : Nat) < 384 := (i 0).isLt
      have h1 : (i 1 : Nat) < 384 := (i 1).isLt
      match a with
      | ⟨0, _⟩ => exact ⟨(Nat.zero_le _ : 0 ≤ (i 0 : Nat)), h0⟩
      | ⟨1, _⟩ => exact ⟨(Nat.zero_le _ : 0 ≤ (i 1 : Nat)), h1⟩⟩

/-- The reference ends with `out` in its result and its argument unchanged. -/
theorem run : θ_run defs (onTc (τ := τ) (main (F := F))) ⟨m, fun _ => 0, ρ⟩ (fun r => ∀ c : Dev nD,
      r.2.mem ((c.tc : Thread nD τ).loc main_v0) = out c m
      ∧ r.2.mem ((c.tc : Thread nD τ).loc main_arg0) = m ((c.tc : Thread nD τ).loc main_arg0)) :=
  (θ_run defs _ _).mono (fun _ h c => ⟨(h c).1.trans (final_o c m), (h c).2⟩) (Value.run_blocks m ρ)

end Cert.ReferenceIdeal.Tv

end
-- ==== Proof.Agree.lean ====
module

public import proofs.«01_k».proof.Proof.Run
public import proofs.«01_k».proof.Proof.RefRun
public import Idealize.ShloMosaic.PureOps.Ideal

@[expose] public section

set_option maxRecDepth 16384

/-! # The two iterations agree over the extended reals

The kernel carries a quarter of the dual, the reference the dual itself; both stay finite, for each step ends in a
projection onto an interval, and a line may hold infinities. -/

noncomputable section

namespace Cert.Agree

open Idealize.ShloMosaic Idealize.ShloMosaic.Pointwise
open Cert.KernelIdeal.Tv Cert.ReferenceIdeal.Tv

/-! ## Scalars -/

/-- A pattern whose exponent is not all ones denotes a real. -/
theorem word_real (b : BitVec 32) (h : (b.extractLsb' 23 8).toNat ≠ 255) : ∃ r : ℝ, word (F := Ideal) b = ((r : ℝ) : EReal) := by
  show ∃ r : ℝ, Ideal.ieee 8 23 b = r
  unfold Ideal.ieee
  simp only []
  rw [if_neg (by simpa using h)]
  split_ifs <;> exact ⟨_, rfl⟩

/-- The factors are reals. -/
theorem coef_real (i : ℕ) (h : i < 40) : ∃ r : ℝ, word (F := Ideal) (coef i) = ((r : ℝ) : EReal) :=
  word_real _ ((by decide : ∀ i : Fin 40, ((coef i.val).extractLsb' 23 8).toNat ≠ 255) ⟨i, h⟩)

/-- Zero. -/
theorem word_zero : word (F := Ideal) 0x00000000#32 = ((0 : ℝ) : EReal) := by
  show Ideal.ieee 8 23 (0x00000000#32 : BitVec 32) = _
  simp [Ideal.ieee]

/-- A quarter. -/
theorem word_quarter : word (F := Ideal) 0x3E800000#32 = ((1 / 4 : ℝ) : EReal) := by
  show Ideal.ieee 8 23 (0x3E800000#32 : BitVec 32) = _
  simp [Ideal.ieee, -EReal.coe_mul]; norm_num

/-- Four. -/
theorem word_four : word (F := Ideal) 0x40800000#32 = ((4 : ℝ) : EReal) := by
  show Ideal.ieee 8 23 (0x40800000#32 : BitVec 32) = _
  simp [Ideal.ieee, -EReal.coe_mul]; norm_num

/-- The mask: a quarter everywhere but at the last place. -/
theorem quarter_eq (j : Fin 384) : quarter (F := Ideal) j = ((if j.val < 383 then 1 / 4 else 0 : ℝ) : EReal) := by
  have hs : ∀ j : Fin 384, (BitVec.zeroExtend 32 (Scalar.cmpi .slt (BitVec.ofNat 32 j.val) 383#32)).toInt = if j.val < 383 then 1 else 0 := by
    decide +kernel
  unfold quarter
  show word (F := Ideal) 0x3E800000#32 * (((BitVec.zeroExtend 32 (Scalar.cmpi .slt (BitVec.ofNat 32 j.val) 383#32)).toInt : ℝ) : EReal) = _
  rw [word_quarter, hs, ← EReal.coe_mul]
  split_ifs <;> simp

/-- The projection onto an interval with real ends is real. -/
theorem clip_real (s t : ℝ) (a : EReal) : ∃ v : ℝ, min (s : EReal) (max (t : EReal) a) = v := by
  induction a using EReal.rec with
  | bot => exact ⟨min s t, by rw [max_bot_right]; exact (EReal.coe_strictMono.monotone.map_min).symm⟩
  | coe a => exact ⟨min s (max t a), by norm_cast⟩
  | top => exact ⟨s, by simp⟩

/-- The argument of the projection, the reference's and the kernel's. -/
theorem arg_eq (a b : EReal) (w v u : ℝ) :
    (w : EReal) + Ideal.div ((b - ((w - v : ℝ) : EReal)) - (a - ((u - w : ℝ) : EReal))) ((4 : ℝ) : EReal)
      = ((1 / 4 : ℝ) : EReal) * (b - a)
        + ((((w / 4 : ℝ) : EReal) + ((v / 4 : ℝ) : EReal)) + (((w / 4 : ℝ) : EReal) + ((u / 4 : ℝ) : EReal))) := by
  have h4 : ((4 : ℝ) : EReal) ≠ 0 := by norm_cast
  unfold Ideal.div
  rw [if_neg h4, ← EReal.coe_inv]
  have hp : (0 : ℝ) < 4⁻¹ := by norm_num
  have hq : (0 : ℝ) < 1 / 4 := by norm_num
  simp only [← EReal.coe_add]
  induction a using EReal.rec with
  | bot =>
    induction b using EReal.rec with
    | bot => simp [-EReal.coe_sub, EReal.bot_mul_coe_of_pos hp, EReal.coe_mul_bot_of_pos hq, -one_div]
    | coe b => simp [← EReal.coe_sub, EReal.top_mul_coe_of_pos hp, EReal.coe_mul_top_of_pos hq, -one_div]
    | top => simp [-EReal.coe_sub, EReal.top_mul_coe_of_pos hp, EReal.coe_mul_top_of_pos hq, -one_div]
  | coe a =>
    induction b using EReal.rec with
    | bot => simp [← EReal.coe_sub, EReal.bot_mul_coe_of_pos hp, EReal.coe_mul_bot_of_pos hq, -one_div]
    | coe b =>
      simp only [← EReal.coe_sub, ← EReal.coe_mul, ← EReal.coe_add]
      congr 1; ring
    | top => simp [← EReal.coe_sub, EReal.top_mul_coe_of_pos hp, EReal.coe_mul_top_of_pos hq, -one_div]
  | top =>
    induction b using EReal.rec with
    | bot => simp [-EReal.coe_sub, EReal.bot_mul_coe_of_pos hp, EReal.coe_mul_bot_of_pos hq, -one_div]
    | coe b => simp [← EReal.coe_sub, EReal.bot_mul_coe_of_pos hp, EReal.coe_mul_bot_of_pos hq, -one_div]
    | top => simp [-EReal.coe_sub, EReal.bot_mul_coe_of_pos hp, EReal.coe_mul_bot_of_pos hq, -one_div]

/-! ## One step of a line -/

/-- The value one place before, zero at the start. -/
def before (W : ℕ → ℝ) (j : ℕ) : ℝ := if j < 1 then 0 else W (j - 1)

/-- A dual that vanishes past the line's gaps is `w` in the reference and a quarter of it, `u`, in the kernel. -/
structure Holds (W : ℕ → ℝ) (w : Gaps Ideal) (u : Line Ideal) : Prop where
  zero : ∀ j, 383 ≤ j → W j = 0
  ref : ∀ j : Fin 383, w j = ((W j.val : ℝ) : EReal)
  ker : ∀ j : Fin 384, u j = ((W j.val / 4 : ℝ) : EReal)

variable {W Z : ℕ → ℝ} {w z : Gaps Ideal} {u q : Line Ideal}

/-- The transposed difference of the dual is a real. -/
theorem Holds.back (h : Holds W w u) (j : Fin 384) : back w j = ((before W j.val - W j.val : ℝ) : EReal) := by
  unfold Cert.ReferenceIdeal.Tv.back before
  by_cases h1 : j.val < 1
  · have h0 : j.val = 0 := by omega
    rw [if_pos h1, if_pos h1, h.ref, word_zero, h0]
    exact (EReal.coe_sub _ _).symm
  · rw [if_neg h1, if_neg h1]
    by_cases h2 : j.val < 383
    · rw [dif_pos h2, h.ref, h.ref]
      exact (EReal.coe_sub _ _).symm
    · have h3 : j.val = 383 := by have := j.isLt; omega
      rw [dif_neg h2, h.ref, h.zero j.val (by omega), h3, sub_zero]
      rfl

/-- The place before. -/
theorem Holds.prev (h : Holds W w u) (j : Fin 384) : prev u j = ((before W j.val / 4 : ℝ) : EReal) := by
  unfold Cert.KernelIdeal.Tv.prev before
  by_cases h1 : j.val < 1
  · rw [if_pos h1, if_pos h1, word_zero]; simp
  · rw [if_neg h1, if_neg h1, h.ker]

/-- The place after. -/
theorem Holds.next (h : Holds W w u) (j : Fin 384) (hj : j.val < 383) : next u j = ((W (1 + j.val) / 4 : ℝ) : EReal) := by
  unfold Cert.KernelIdeal.Tv.next
  rw [dif_pos hj, h.ker]

/-- A projected step keeps the two in agreement. -/
theorem Holds.move (h : Holds W w u) (y : Line Ideal) : ∃ V : ℕ → ℝ, Holds V (move y w) (dual (grad y) u) := by
  obtain ⟨s, hs⟩ := word_real 0x3DCCCCCD#32 (by decide)
  obtain ⟨t, ht⟩ := word_real 0xBDCCCCCD#32 (by decide)
  have hv : ∀ j : Fin 383, ∃ v : ℝ, Cert.ReferenceIdeal.Tv.move y w j = v := fun j => by
    unfold Cert.ReferenceIdeal.Tv.move
    rw [hs, ht]
    exact clip_real s t _
  choose V hV using hv
  refine ⟨fun j => if h : j < 383 then V ⟨j, h⟩ else 0, fun j hj => dif_neg (by omega), fun j => ?_, fun j => ?_⟩
  · rw [hV]; simp
  · by_cases hj : j.val < 383
    · have hm := hV ⟨j.val, hj⟩
      unfold Cert.ReferenceIdeal.Tv.move rest at hm
      rw [h.back, h.back, word_four, h.ref] at hm
      unfold dual grad
      rw [h.next j hj, h.prev, h.ker, word_quarter, quarter_eq, if_pos hj]
      have hn : Cert.KernelIdeal.Tv.next y j = y ⟨1 + j.val, by omega⟩ := by unfold Cert.KernelIdeal.Tv.next; rw [dif_pos hj]
      have hb : before W (1 + j.val) = W j.val := by unfold before; rw [if_neg (by omega)]; congr 1; omega
      have ha := arg_eq (y j) (y ⟨1 + j.val, by omega⟩) (W j.val) (W (1 + j.val)) (before W j.val)
      simp only [Ideal.addf_def, Ideal.subf_def, Ideal.mulf_def, Ideal.divf_def, hn, hb] at hm ⊢
      rw [← ha]
      simp only [hj, dif_pos]
      refine (congrArg (fun v : EReal => v * ((1 / 4 : ℝ) : EReal)) hm).trans ?_
      rw [← EReal.coe_mul]; congr 1; ring
    · unfold dual
      rw [quarter_eq, if_neg hj]
      simp only [hj, dif_neg, Ideal.mulf_def]
      simp

/-- So does the extrapolation. -/
theorem Holds.push (h : Holds W w u) (h' : Holds Z z q) (i : ℕ) (hi : i < 40) :
    ∃ V : ℕ → ℝ, Holds V (fun j => FloatOps.addf (w j) (FloatOps.mulf (word (coef i)) (FloatOps.subf (w j) (z j))))
      (fun j => FloatOps.addf (u j) (FloatOps.mulf (word (coef i)) (FloatOps.subf (u j) (q j)))) := by
  obtain ⟨r, hr⟩ := coef_real i hi
  refine ⟨fun j => W j + r * (W j - Z j), fun j hj => ?_, fun j => ?_, fun j => ?_⟩
  · simp [h.zero j hj, h'.zero j hj]
  · rw [h.ref, h'.ref, hr]
    simp only [Ideal.addf_def, Ideal.subf_def, Ideal.mulf_def, ← EReal.coe_sub, ← EReal.coe_mul, ← EReal.coe_add]
  · rw [h.ker, h'.ker, hr]
    simp only [Ideal.addf_def, Ideal.subf_def, Ideal.mulf_def, ← EReal.coe_sub, ← EReal.coe_mul, ← EReal.coe_add]
    congr 1; ring

/-- The duals agree after every step. -/
theorem steps_moves (y : Line Ideal) : ∀ n : ℕ, n ≤ 40 →
    (∃ Z : ℕ → ℝ, Holds Z (moves y n).1 (steps (grad y) n).1) ∧ ∃ W : ℕ → ℝ, Holds W (moves y n).2 (steps (grad y) n).2
  | 0, _ => by
    have h : ∃ Z : ℕ → ℝ, Holds Z (fun _ => word 0x00000000#32) (fun _ => word 0x00000000#32) :=
      ⟨fun _ => 0, fun _ _ => rfl, fun _ => word_zero, fun _ => by rw [word_zero]; simp⟩
    exact ⟨h, h⟩
  | n + 1, hn => by
    obtain ⟨⟨Z, hZ⟩, W, hW⟩ := steps_moves y n (Nat.le_of_succ_le hn)
    obtain ⟨V, hV⟩ := hW.move y
    exact ⟨⟨V, hV⟩, hV.push hZ n hn⟩

/-- The proximal points of a line agree. -/
theorem near_eq (y : Line Ideal) (j : Fin 384) : near y j = prox y j := by
  obtain ⟨⟨Z, h⟩, -⟩ := steps_moves y 40 le_rfl
  unfold near rest prox
  rw [h.back, h.prev, h.ker, word_four]
  simp only [Ideal.addf_def, Ideal.subf_def, Ideal.mulf_def, ← EReal.coe_sub, ← EReal.coe_mul]
  rw [sub_eq_add_neg, ← EReal.coe_neg]
  congr 2; ring

/-! ## The pictures -/

/-- The column results agree. -/
theorem col_eq (x p : Pic Ideal) : Cert.ReferenceIdeal.Gen.k0_pay7 x p (colDual x p) = yOf x p := by
  funext i
  obtain ⟨a, b, rfl⟩ := picIx i
  exact (pay7_moves x p a b).trans (near_eq _ a)

/-- The row results agree. -/
theorem row_eq (x p q : Pic Ideal) :
    Cert.ReferenceIdeal.Gen.k0_pay13 x p q (colDual x p) (rowDual x p q) = oOf (yOf x p) q := by
  funext i
  obtain ⟨a, b, rfl⟩ := picIx i
  refine (pay13_moves x p q (colDual x p) a b).trans ((near_eq _ b).trans ?_)
  rw [col_eq]; rfl

/-- One outer step of the reference is one of the kernel. -/
theorem pass_eq (s : Pic Ideal × Pic Ideal × Pic Ideal) : pass s = turn s := by
  refine Prod.ext (row_eq s.1 s.2.1 s.2.2) (Prod.ext ?_ ?_)
  · funext i
    show FloatOps.subf (FloatOps.addf (s.2.1 i) (s.1 i)) (Cert.ReferenceIdeal.Gen.k0_pay7 s.1 s.2.1 (colDual s.1 s.2.1) i) = _
    rw [col_eq]
    simp only [Ideal.addf_def, add_comm (s.2.1 i)]; rfl
  · funext i
    show FloatOps.subf (FloatOps.addf (s.2.2 i) (Cert.ReferenceIdeal.Gen.k0_pay7 s.1 s.2.1 (colDual s.1 s.2.1) i))
      (Cert.ReferenceIdeal.Gen.k0_pay13 s.1 s.2.1 s.2.2 (colDual s.1 s.2.1) (rowDual s.1 s.2.1 s.2.2) i) = _
    rw [row_eq, col_eq]
    simp only [Ideal.addf_def, add_comm (s.2.2 i)]; rfl

/-- The pictures agree after every outer step. -/
theorem passes_eq (x : Pic Ideal) : ∀ n : ℕ, passes x n = turns x n
  | 0 => rfl
  | n + 1 => (congrArg pass (passes_eq x n)).trans (pass_eq (turns x n))

end Cert.Agree

end
-- ==== Proof.lean ====
/- The certificate of the two-dimensional total-variation kernel: its five claims, put together from the
   modules under Proof/. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.ReferenceIdeal.Value
public import proofs.«01_k».proof.Proof.Same
public import proofs.«01_k».proof.Proof.Frame
public import proofs.«01_k».proof.Proof.RefRun
public import proofs.«01_k».proof.Proof.Agree
public import Idealize.ShloMosaic.Adequacy
public import Idealize.ShloMosaic.Init

@[expose] public section

noncomputable section

namespace Cert.Proof

open Idealize.ShloMosaic Idealize.SL.Sem

/-- The kernel ends with its argument unchanged and every counter at zero. -/
theorem frame_p : Cert.quiescent_Kernel (hKernel := Cert.Kernel.Gen.facts) := fun m g _ =>
  (Eq.mpr (Cert.Kernel.Tv.frame_eq (F := Bits)) (fun m g => Cert.KernelIdeal.Tv.frame m g)) m g

/-- So does the kernel over the extended reals. -/
theorem frame_pi : Cert.quiescent_KernelIdeal (hKernelIdeal := Cert.KernelIdeal.Gen.facts) := fun m g _ =>
  Cert.KernelIdeal.Tv.frame m g

/-- So does the reference. -/
theorem frame_ri : Cert.quiescent_ReferenceIdeal (hReferenceIdeal := Cert.ReferenceIdeal.Gen.facts) := fun m g _ =>
  Cert.ReferenceIdeal.Gen.frame m g

/-- From one picture both return the same one. -/
theorem algebraic : Cert.algebraic_KernelIdeal_ReferenceIdeal (hKernelIdeal := Cert.KernelIdeal.Gen.facts)
    (hReferenceIdeal := Cert.ReferenceIdeal.Gen.facts) := fun m g m' g' _ h =>
  ⟨Cert.KernelIdeal.Tv.out m, Cert.KernelIdeal.Tv.run m g,
    (θ_run Cert.ReferenceIdeal.defs _ _).mono (fun _ hr c => ⟨(hr c).1.trans (by
      unfold Cert.ReferenceIdeal.Tv.out Cert.KernelIdeal.Tv.out Cert.KernelIdeal.Tv.result
      rw [h c]
      exact congrArg Prod.fst (Cert.Agree.passes_eq _ 15)), (hr c).2⟩) (Cert.ReferenceIdeal.Tv.run m' g')⟩

theorem claim : Cert.Claim := ⟨Cert.Kernel.Gen.facts, Cert.KernelIdeal.Gen.facts, Cert.ReferenceIdeal.Gen.facts,
  frame_p, frame_pi, frame_ri, trivial, algebraic⟩

end Cert.Proof

end
